-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x2048x512 : Shape := ⟨3, ![16, 2048, 512]⟩
abbrev S16x2048x8 : Shape := ⟨3, ![16, 2048, 8]⟩
abbrev S_ : Shape := ⟨0, ![]⟩

class Facts : Prop where
  bcast_S_S16x2048x8 : S_.BroadcastsInDim S16x2048x8 (![] : Fin 0 → Fin S16x2048x8.rank)
  bcast_S_S16x2048x512 : S_.BroadcastsInDim S16x2048x512 (![] : Fin 0 → Fin S16x2048x512.rank)

variable [Facts]

def fn {F : FTy → Type} [FloatOps F] (main_arg0 : FVec F S16x2048x512 .f32) (main_arg1 : FVec F S16x2048x8 .f32) : IVec S16x2048x8 1 × IVec S16x2048x512 1 :=
  let main_cst : FVec F S_ .f32 := constant S_ .f32 0x00000000#32
  let main_v0 : FVec F S16x2048x8 .f32 := broadcastInDim S16x2048x8 ![] bcast_S_S16x2048x8 main_cst
  let main_v1 : IVec S16x2048x8 1 := cmpf .oge main_arg1 main_v0
  let main_cst_0 : FVec F S_ .f32 := constant S_ .f32 0x40800000#32
  let main_v2 : FVec F S16x2048x8 .f32 := broadcastInDim S16x2048x8 ![] bcast_S_S16x2048x8 main_cst_0
  let main_v3 : IVec S16x2048x8 1 := cmpf .olt main_arg1 main_v2
  let main_v4 : IVec S16x2048x8 1 := andi main_v1 main_v3
  let main_cst_1 : FVec F S_ .f32 := constant S_ .f32 0xFF800000#32
  let main_v5 : FVec F S16x2048x512 .f32 := broadcastInDim S16x2048x512 ![] bcast_S_S16x2048x512 main_cst_1
  let main_v6 : IVec S16x2048x512 1 := cmpf .ogt main_arg0 main_v5
  let main_cst_2 : FVec F S_ .f32 := constant S_ .f32 0x7F800000#32
  let main_v7 : FVec F S16x2048x512 .f32 := broadcastInDim S16x2048x512 ![] bcast_S_S16x2048x512 main_cst_2
  let main_v8 : IVec S16x2048x512 1 := cmpf .olt main_arg0 main_v7
  let main_v9 : IVec S16x2048x512 1 := andi main_v6 main_v8
  (main_v4, main_v9)
-- ==== Kernel.lean ====
abbrev S16x2048x512 : Shape := ⟨3, ![16, 2048, 512]⟩
abbrev S16x2048x8 : Shape := ⟨3, ![16, 2048, 8]⟩
abbrev S8x16x2048 : Shape := ⟨3, ![8, 16, 2048]⟩
abbrev S16x2048 : Shape := ⟨2, ![16, 2048]⟩
abbrev S1x16x2048 : Shape := ⟨3, ![1, 16, 2048]⟩
abbrev S16x2047 : Shape := ⟨2, ![16, 2047]⟩
abbrev S16x1 : Shape := ⟨2, ![16, 1]⟩
abbrev S16x2048x1 : Shape := ⟨3, ![16, 2048, 1]⟩
abbrev S16x2048x4 : Shape := ⟨3, ![16, 2048, 4]⟩
abbrev S1x2048x512 : Shape := ⟨3, ![1, 2048, 512]⟩
abbrev S1x2048x4 : Shape := ⟨3, ![1, 2048, 4]⟩
abbrev S2048x512 : Shape := ⟨2, ![2048, 512]⟩
abbrev S2048x4 : Shape := ⟨2, ![2048, 4]⟩
abbrev S2045x4 : Shape := ⟨2, ![2045, 4]⟩
abbrev S2045x1 : Shape := ⟨2, ![2045, 1]⟩
abbrev S2045x512 : Shape := ⟨2, ![2045, 512]⟩
abbrev S1x2045x512 : Shape := ⟨3, ![1, 2045, 512]⟩
abbrev S1x1 : Shape := ⟨2, ![1, 1]⟩
abbrev S1x512 : Shape := ⟨2, ![1, 512]⟩
abbrev S1x1x512 : Shape := ⟨3, ![1, 1, 512]⟩

abbrev nBuf : Space → Nat
  | .hbm => 14
  | .vmem => 12
  | .smem => 0
  | _ => 0

abbrev bufTy : (tb : Table) → Fin (tcTables nBuf tb) → BufTy
  | .hbm, ⟨0, _⟩ => ⟨S16x2048x512, .f32⟩
  | .hbm, ⟨1, _⟩ => ⟨S16x2048x8, .f32⟩
  | .hbm, ⟨2, _⟩ => ⟨S8x16x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S16x2048x1, .f32⟩
  | .hbm, ⟨9, _⟩ => ⟨S16x2048x1, .f32⟩
  | .hbm, ⟨10, _⟩ => ⟨S16x2048x1, .f32⟩
  | .hbm, ⟨11, _⟩ => ⟨S16x2048x1, .f32⟩
  | .hbm, ⟨12, _⟩ => ⟨S16x2048x4, .f32⟩
  | .hbm, ⟨13, _⟩ => ⟨S16x2048x512, .f32⟩
  | .local _ .vmem, ⟨0, _⟩ => ⟨S8x16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x4, .f32⟩
  | .local _ .vmem, ⟨9, _⟩ => ⟨S1x2048x4, .f32⟩
  | .local _ .vmem, ⟨10, _⟩ => ⟨S1x2048x512, .f32⟩
  | .local _ .vmem, ⟨11, _⟩ => ⟨S1x2048x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := .none

abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16x2048x512 : Shape := ⟨3, ![16, 2048, 512]⟩
abbrev S16x2048x8 : Shape := ⟨3, ![16, 2048, 8]⟩
abbrev S_ : Shape := ⟨0, ![]⟩
abbrev S16x2048x1 : Shape := ⟨3, ![16, 2048, 1]⟩
abbrev S16x2048 : Shape := ⟨2, ![16, 2048]⟩
abbrev S2048 : Shape := ⟨1, ![2048]⟩
abbrev S1 : Shape := ⟨1, ![1]⟩
abbrev S1x1x1 : Shape := ⟨3, ![1, 1, 1]⟩
abbrev S16x512x2048 : Shape := ⟨3, ![16, 512, 2048]⟩
abbrev S16x1x2048 : Shape := ⟨3, ![16, 1, 2048]⟩
abbrev S16x512x2048x1 : Shape := ⟨4, ![16, 512, 2048, 1]⟩
abbrev S1x1x1x1 : Shape := ⟨4, ![1, 1, 1, 1]⟩

abbrev nBuf : Space → Nat
  | .hbm => 800
  | .vmem => 0
  | .smem => 0
  | _ => 0

abbrev hbmTy0_0 (i : Nat) : BufTy := match i % 128 with
  | 0 => ⟨S16x2048x512, .f32⟩
  | 1 => ⟨S16x2048x8, .f32⟩
  | 2 => ⟨S_, .f32⟩
  | 3 => ⟨S16x2048x8, .f32⟩
  | 4 => ⟨S16x2048x8, .f32⟩
  | 5 => ⟨S16x2048x1, .f32⟩
  | 6 => ⟨S16x2048, .f32⟩
  | 7 => ⟨S2048, .f32⟩
  | 8 => ⟨S16x2048, .f32⟩
  | 9 => ⟨S_, .f32⟩
  | 10 => ⟨S_, .f32⟩
  | 11 => ⟨S_, .f32⟩
  | 12 => ⟨S16x2048, .f32⟩
  | 13 => ⟨S16x2048, .f32⟩
  | 14 => ⟨S_, .f32⟩
  | 15 => ⟨S16x2048, .f32⟩
  | 16 => ⟨S16x2048, .f32⟩
  | 17 => ⟨S16x2048, .f32⟩
  | 18 => ⟨S16x2048, .i32⟩
  | 19 => ⟨S_, .i32⟩
  | 20 => ⟨S_, .i32⟩
  | 21 => ⟨S_, .i32⟩
  | 22 => ⟨S16x2048, .i32⟩
  | 23 => ⟨S16x2048, .i32⟩
  | 24 => ⟨S_, .i32⟩
  | 25 => ⟨S16x2048, .i32⟩
  | 26 => ⟨S16x2048, .i32⟩
  | 27 => ⟨S_, .i32⟩
  | 28 => ⟨S16x2048, .i32⟩
  | 29 => ⟨S16x2048, .i32⟩
  | 30 => ⟨S16x2048, .f32⟩
  | 31 => ⟨S16x2048, .f32⟩
  | 32 => ⟨S_, .i32⟩
  | 33 => ⟨S16x2048, .i32⟩
  | 34 => ⟨S16x2048, .i1⟩
  | 35 => ⟨S_, .i32⟩
  | 36 => ⟨S16x2048, .i32⟩
  | 37 => ⟨S16x2048, .i32⟩
  | 38 => ⟨S16x2048, .i32⟩
  | 39 => ⟨S16x2048x1, .i32⟩
  | 40 => ⟨S1, .i32⟩
  | 41 => ⟨S_, .i32⟩
  | 42 => ⟨S16x2048x1, .i32⟩
  | 43 => ⟨S16x2048x1, .i1⟩
  | 44 => ⟨S1x1x1, .i32⟩
  | 45 => ⟨S16x2048x1, .i32⟩
  | 46 => ⟨S16x2048x1, .i1⟩
  | 47 => ⟨S16x2048x1, .i1⟩
  | 48 => ⟨S_, .i1⟩
  | 49 => ⟨S16x2048, .i1⟩
  | 50 => ⟨S16x2048, .f32⟩
  | 51 => ⟨S_, .f32⟩
  | 52 => ⟨S16x2048, .f32⟩
  | 53 => ⟨S16x2048, .f32⟩
  | 54 => ⟨S_, .i32⟩
  | 55 => ⟨S16x2048, .i32⟩
  | 56 => ⟨S16x2048, .i1⟩
  | 57 => ⟨S_, .i32⟩
  | 58 => ⟨S16x2048, .i32⟩
  | 59 => ⟨S16x2048, .i32⟩
  | 60 => ⟨S16x2048, .i32⟩
  | 61 => ⟨S16x2048x1, .i32⟩
  | 62 => ⟨S1, .i32⟩
  | 63 => ⟨S_, .i32⟩
  | 64 => ⟨S16x2048x1, .i32⟩
  | 65 => ⟨S16x2048x1, .i1⟩
  | 66 => ⟨S1x1x1, .i32⟩
  | 67 => ⟨S16x2048x1, .i32⟩
  | 68 => ⟨S16x2048x1, .i1⟩
  | 69 => ⟨S16x2048x1, .i1⟩
  | 70 => ⟨S_, .i1⟩
  | 71 => ⟨S16x2048, .i1⟩
  | 72 => ⟨S16x2048, .f32⟩
  | 73 => ⟨S_, .f32⟩
  | 74 => ⟨S16x2048, .f32⟩
  | 75 => ⟨S16x2048, .f32⟩
  | 76 => ⟨S_, .f32⟩
  | 77 => ⟨S16x2048, .f32⟩
  | 78 => ⟨S16x2048, .f32⟩
  | 79 => ⟨S16x2048, .f32⟩
  | 80 => ⟨S16x2048, .f32⟩
  | 81 => ⟨S16x2048, .f32⟩
  | 82 => ⟨S16x2048, .f32⟩
  | 83 => ⟨S16x2048x1, .f32⟩
  | 84 => ⟨S16x2048, .f32⟩
  | 85 => ⟨S_, .f32⟩
  | 86 => ⟨S_, .f32⟩
  | 87 => ⟨S_, .f32⟩
  | 88 => ⟨S16x2048, .f32⟩
  | 89 => ⟨S16x2048, .f32⟩
  | 90 => ⟨S_, .f32⟩
  | 91 => ⟨S16x2048, .f32⟩
  | 92 => ⟨S16x2048, .f32⟩
  | 93 => ⟨S16x2048, .f32⟩
  | 94 => ⟨S16x2048, .i32⟩
  | 95 => ⟨S_, .i32⟩
  | 96 => ⟨S_, .i32⟩
  | 97 => ⟨S_, .i32⟩
  | 98 => ⟨S16x2048, .i32⟩
  | 99 => ⟨S16x2048, .i32⟩
  | 100 => ⟨S_, .i32⟩
  | 101 => ⟨S16x2048, .i32⟩
  | 102 => ⟨S16x2048, .i32⟩
  | 103 => ⟨S_, .i32⟩
  | 104 => ⟨S16x2048, .i32⟩
  | 105 => ⟨S16x2048, .i32⟩
  | 106 => ⟨S16x2048, .f32⟩
  | 107 => ⟨S16x2048, .f32⟩
  | 108 => ⟨S_, .i32⟩
  | 109 => ⟨S16x2048, .i32⟩
  | 110 => ⟨S16x2048, .i1⟩
  | 111 => ⟨S_, .i32⟩
  | 112 => ⟨S16x2048, .i32⟩
  | 113 => ⟨S16x2048, .i32⟩
  | 114 => ⟨S16x2048, .i32⟩
  | 115 => ⟨S16x2048x1, .i32⟩
  | 116 => ⟨S1, .i32⟩
  | 117 => ⟨S_, .i32⟩
  | 118 => ⟨S16x2048x1, .i32⟩
  | 119 => ⟨S16x2048x1, .i1⟩
  | 120 => ⟨S1x1x1, .i32⟩
  | 121 => ⟨S16x2048x1, .i32⟩
  | 122 => ⟨S16x2048x1, .i1⟩
  | 123 => ⟨S16x2048x1, .i1⟩
  | 124 => ⟨S_, .i1⟩
  | 125 => ⟨S16x2048, .i1⟩
  | 126 => ⟨S16x2048, .f32⟩
  | 127 => ⟨S_, .f32⟩
  | _ => ⟨S16x2048x512, .f32⟩

abbrev hbmTy0_1 (i : Nat) : BufTy := match i % 128 with
  | 0 => ⟨S16x2048, .f32⟩
  | 1 => ⟨S16x2048, .f32⟩
  | 2 => ⟨S_, .i32⟩
  | 3 => ⟨S16x2048, .i32⟩
  | 4 => ⟨S16x2048, .i1⟩
  | 5 => ⟨S_, .i32⟩
  | 6 => ⟨S16x2048, .i32⟩
  | 7 => ⟨S16x2048, .i32⟩
  | 8 => ⟨S16x2048, .i32⟩
  | 9 => ⟨S16x2048x1, .i32⟩
  | 10 => ⟨S1, .i32⟩
  | 11 => ⟨S_, .i32⟩
  | 12 => ⟨S16x2048x1, .i32⟩
  | 13 => ⟨S16x2048x1, .i1⟩
  | 14 => ⟨S1x1x1, .i32⟩
  | 15 => ⟨S16x2048x1, .i32⟩
  | 16 => ⟨S16x2048x1, .i1⟩
  | 17 => ⟨S16x2048x1, .i1⟩
  | 18 => ⟨S_, .i1⟩
  | 19 => ⟨S16x2048, .i1⟩
  | 20 => ⟨S16x2048, .f32⟩
  | 21 => ⟨S_, .f32⟩
  | 22 => ⟨S16x2048, .f32⟩
  | 23 => ⟨S16x2048, .f32⟩
  | 24 => ⟨S_, .f32⟩
  | 25 => ⟨S16x2048, .f32⟩
  | 26 => ⟨S16x2048, .f32⟩
  | 27 => ⟨S16x2048, .f32⟩
  | 28 => ⟨S16x2048, .f32⟩
  | 29 => ⟨S16x2048, .f32⟩
  | 30 => ⟨S16x2048, .f32⟩
  | 31 => ⟨S16x2048x1, .f32⟩
  | 32 => ⟨S16x2048, .f32⟩
  | 33 => ⟨S_, .f32⟩
  | 34 => ⟨S_, .f32⟩
  | 35 => ⟨S_, .f32⟩
  | 36 => ⟨S16x2048, .f32⟩
  | 37 => ⟨S16x2048, .f32⟩
  | 38 => ⟨S_, .f32⟩
  | 39 => ⟨S16x2048, .f32⟩
  | 40 => ⟨S16x2048, .f32⟩
  | 41 => ⟨S16x2048, .f32⟩
  | 42 => ⟨S16x2048, .i32⟩
  | 43 => ⟨S_, .i32⟩
  | 44 => ⟨S_, .i32⟩
  | 45 => ⟨S_, .i32⟩
  | 46 => ⟨S16x2048, .i32⟩
  | 47 => ⟨S16x2048, .i32⟩
  | 48 => ⟨S_, .i32⟩
  | 49 => ⟨S16x2048, .i32⟩
  | 50 => ⟨S16x2048, .i32⟩
  | 51 => ⟨S_, .i32⟩
  | 52 => ⟨S16x2048, .i32⟩
  | 53 => ⟨S16x2048, .i32⟩
  | 54 => ⟨S16x2048, .f32⟩
  | 55 => ⟨S16x2048, .f32⟩
  | 56 => ⟨S_, .i32⟩
  | 57 => ⟨S16x2048, .i32⟩
  | 58 => ⟨S16x2048, .i1⟩
  | 59 => ⟨S_, .i32⟩
  | 60 => ⟨S16x2048, .i32⟩
  | 61 => ⟨S16x2048, .i32⟩
  | 62 => ⟨S16x2048, .i32⟩
  | 63 => ⟨S16x2048x1, .i32⟩
  | 64 => ⟨S1, .i32⟩
  | 65 => ⟨S_, .i32⟩
  | 66 => ⟨S16x2048x1, .i32⟩
  | 67 => ⟨S16x2048x1, .i1⟩
  | 68 => ⟨S1x1x1, .i32⟩
  | 69 => ⟨S16x2048x1, .i32⟩
  | 70 => ⟨S16x2048x1, .i1⟩
  | 71 => ⟨S16x2048x1, .i1⟩
  | 72 => ⟨S_, .i1⟩
  | 73 => ⟨S16x2048, .i1⟩
  | 74 => ⟨S16x2048, .f32⟩
  | 75 => ⟨S_, .f32⟩
  | 76 => ⟨S16x2048, .f32⟩
  | 77 => ⟨S16x2048, .f32⟩
  | 78 => ⟨S_, .i32⟩
  | 79 => ⟨S16x2048, .i32⟩
  | 80 => ⟨S16x2048, .i1⟩
  | 81 => ⟨S_, .i32⟩
  | 82 => ⟨S16x2048, .i32⟩
  | 83 => ⟨S16x2048, .i32⟩
  | 84 => ⟨S16x2048, .i32⟩
  | 85 => ⟨S16x2048x1, .i32⟩
  | 86 => ⟨S1, .i32⟩
  | 87 => ⟨S_, .i32⟩
  | 88 => ⟨S16x2048x1, .i32⟩
  | 89 => ⟨S16x2048x1, .i1⟩
  | 90 => ⟨S1x1x1, .i32⟩
  | 91 => ⟨S16x2048x1, .i32⟩
  | 92 => ⟨S16x2048x1, .i1⟩
  | 93 => ⟨S16x2048x1, .i1⟩
  | 94 => ⟨S_, .i1⟩
  | 95 => ⟨S16x2048, .i1⟩
  | 96 => ⟨S16x2048, .f32⟩
  | 97 => ⟨S_, .f32⟩
  | 98 => ⟨S16x2048, .f32⟩
  | 99 => ⟨S16x2048, .f32⟩
  | 100 => ⟨S_, .f32⟩
  | 101 => ⟨S16x2048, .f32⟩
  | 102 => ⟨S16x2048, .f32⟩
  | 103 => ⟨S16x2048, .f32⟩
  | 104 => ⟨S16x2048, .f32⟩
  | 105 => ⟨S16x2048, .f32⟩
  | 106 => ⟨S16x2048, .f32⟩
  | 107 => ⟨S16x2048x1, .f32⟩
  | 108 => ⟨S16x2048, .f32⟩
  | 109 => ⟨S_, .f32⟩
  | 110 => ⟨S_, .f32⟩
  | 111 => ⟨S_, .f32⟩
  | 112 => ⟨S16x2048, .f32⟩
  | 113 => ⟨S16x2048, .f32⟩
  | 114 => ⟨S_, .f32⟩
  | 115 => ⟨S16x2048, .f32⟩
  | 116 => ⟨S16x2048, .f32⟩
  | 117 => ⟨S16x2048, .f32⟩
  | 118 => ⟨S16x2048, .i32⟩
  | 119 => ⟨S_, .i32⟩
  | 120 => ⟨S_, .i32⟩
  | 121 => ⟨S_, .i32⟩
  | 122 => ⟨S16x2048, .i32⟩
  | 123 => ⟨S16x2048, .i32⟩
  | 124 => ⟨S_, .i32⟩
  | 125 => ⟨S16x2048, .i32⟩
  | 126 => ⟨S16x2048, .i32⟩
  | 127 => ⟨S_, .i32⟩
  | _ => ⟨S16x2048x512, .f32⟩

abbrev hbmTy0_2 (i : Nat) : BufTy := match i % 128 with
  | 0 => ⟨S16x2048, .i32⟩
  | 1 => ⟨S16x2048, .i32⟩
  | 2 => ⟨S16x2048, .f32⟩
  | 3 => ⟨S16x2048, .f32⟩
  | 4 => ⟨S_, .i32⟩
  | 5 => ⟨S16x2048, .i32⟩
  | 6 => ⟨S16x2048, .i1⟩
  | 7 => ⟨S_, .i32⟩
  | 8 => ⟨S16x2048, .i32⟩
  | 9 => ⟨S16x2048, .i32⟩
  | 10 => ⟨S16x2048, .i32⟩
  | 11 => ⟨S16x2048x1, .i32⟩
  | 12 => ⟨S1, .i32⟩
  | 13 => ⟨S_, .i32⟩
  | 14 => ⟨S16x2048x1, .i32⟩
  | 15 => ⟨S16x2048x1, .i1⟩
  | 16 => ⟨S1x1x1, .i32⟩
  | 17 => ⟨S16x2048x1, .i32⟩
  | 18 => ⟨S16x2048x1, .i1⟩
  | 19 => ⟨S16x2048x1, .i1⟩
  | 20 => ⟨S_, .i1⟩
  | 21 => ⟨S16x2048, .i1⟩
  | 22 => ⟨S16x2048, .f32⟩
  | 23 => ⟨S_, .f32⟩
  | 24 => ⟨S16x2048, .f32⟩
  | 25 => ⟨S16x2048, .f32⟩
  | 26 => ⟨S_, .i32⟩
  | 27 => ⟨S16x2048, .i32⟩
  | 28 => ⟨S16x2048, .i1⟩
  | 29 => ⟨S_, .i32⟩
  | 30 => ⟨S16x2048, .i32⟩
  | 31 => ⟨S16x2048, .i32⟩
  | 32 => ⟨S16x2048, .i32⟩
  | 33 => ⟨S16x2048x1, .i32⟩
  | 34 => ⟨S1, .i32⟩
  | 35 => ⟨S_, .i32⟩
  | 36 => ⟨S16x2048x1, .i32⟩
  | 37 => ⟨S16x2048x1, .i1⟩
  | 38 => ⟨S1x1x1, .i32⟩
  | 39 => ⟨S16x2048x1, .i32⟩
  | 40 => ⟨S16x2048x1, .i1⟩
  | 41 => ⟨S16x2048x1, .i1⟩
  | 42 => ⟨S_, .i1⟩
  | 43 => ⟨S16x2048, .i1⟩
  | 44 => ⟨S16x2048, .f32⟩
  | 45 => ⟨S_, .f32⟩
  | 46 => ⟨S16x2048, .f32⟩
  | 47 => ⟨S16x2048, .f32⟩
  | 48 => ⟨S_, .f32⟩
  | 49 => ⟨S16x2048, .f32⟩
  | 50 => ⟨S16x2048, .f32⟩
  | 51 => ⟨S16x2048, .f32⟩
  | 52 => ⟨S16x2048, .f32⟩
  | 53 => ⟨S16x2048, .f32⟩
  | 54 => ⟨S16x2048, .f32⟩
  | 55 => ⟨S16x2048x1, .f32⟩
  | 56 => ⟨S16x2048, .f32⟩
  | 57 => ⟨S_, .f32⟩
  | 58 => ⟨S_, .f32⟩
  | 59 => ⟨S_, .f32⟩
  | 60 => ⟨S16x2048, .f32⟩
  | 61 => ⟨S16x2048, .f32⟩
  | 62 => ⟨S_, .f32⟩
  | 63 => ⟨S16x2048, .f32⟩
  | 64 => ⟨S16x2048, .f32⟩
  | 65 => ⟨S16x2048, .f32⟩
  | 66 => ⟨S16x2048, .i32⟩
  | 67 => ⟨S_, .i32⟩
  | 68 => ⟨S_, .i32⟩
  | 69 => ⟨S_, .i32⟩
  | 70 => ⟨S16x2048, .i32⟩
  | 71 => ⟨S16x2048, .i32⟩
  | 72 => ⟨S_, .i32⟩
  | 73 => ⟨S16x2048, .i32⟩
  | 74 => ⟨S16x2048, .i32⟩
  | 75 => ⟨S_, .i32⟩
  | 76 => ⟨S16x2048, .i32⟩
  | 77 => ⟨S16x2048, .i32⟩
  | 78 => ⟨S16x2048, .f32⟩
  | 79 => ⟨S16x2048, .f32⟩
  | 80 => ⟨S_, .i32⟩
  | 81 => ⟨S16x2048, .i32⟩
  | 82 => ⟨S16x2048, .i1⟩
  | 83 => ⟨S_, .i32⟩
  | 84 => ⟨S16x2048, .i32⟩
  | 85 => ⟨S16x2048, .i32⟩
  | 86 => ⟨S16x2048, .i32⟩
  | 87 => ⟨S16x2048x1, .i32⟩
  | 88 => ⟨S1, .i32⟩
  | 89 => ⟨S_, .i32⟩
  | 90 => ⟨S16x2048x1, .i32⟩
  | 91 => ⟨S16x2048x1, .i1⟩
  | 92 => ⟨S1x1x1, .i32⟩
  | 93 => ⟨S16x2048x1, .i32⟩
  | 94 => ⟨S16x2048x1, .i1⟩
  | 95 => ⟨S16x2048x1, .i1⟩
  | 96 => ⟨S_, .i1⟩
  | 97 => ⟨S16x2048, .i1⟩
  | 98 => ⟨S16x2048, .f32⟩
  | 99 => ⟨S_, .f32⟩
  | 100 => ⟨S16x2048, .f32⟩
  | 101 => ⟨S16x2048, .f32⟩
  | 102 => ⟨S_, .i32⟩
  | 103 => ⟨S16x2048, .i32⟩
  | 104 => ⟨S16x2048, .i1⟩
  | 105 => ⟨S_, .i32⟩
  | 106 => ⟨S16x2048, .i32⟩
  | 107 => ⟨S16x2048, .i32⟩
  | 108 => ⟨S16x2048, .i32⟩
  | 109 => ⟨S16x2048x1, .i32⟩
  | 110 => ⟨S1, .i32⟩
  | 111 => ⟨S_, .i32⟩
  | 112 => ⟨S16x2048x1, .i32⟩
  | 113 => ⟨S16x2048x1, .i1⟩
  | 114 => ⟨S1x1x1, .i32⟩
  | 115 => ⟨S16x2048x1, .i32⟩
  | 116 => ⟨S16x2048x1, .i1⟩
  | 117 => ⟨S16x2048x1, .i1⟩
  | 118 => ⟨S_, .i1⟩
  | 119 => ⟨S16x2048, .i1⟩
  | 120 => ⟨S16x2048, .f32⟩
  | 121 => ⟨S_, .f32⟩
  | 122 => ⟨S16x2048, .f32⟩
  | 123 => ⟨S16x2048, .f32⟩
  | 124 => ⟨S_, .f32⟩
  | 125 => ⟨S16x2048, .f32⟩
  | 126 => ⟨S16x2048, .f32⟩
  | 127 => ⟨S16x2048, .f32⟩
  | _ => ⟨S16x2048x512, .f32⟩

abbrev hbmTy0_3 (i : Nat) : BufTy := match i % 128 with
  | 0 => ⟨S16x2048, .f32⟩
  | 1 => ⟨S16x2048, .f32⟩
  | 2 => ⟨S16x2048, .f32⟩
  | 3 => ⟨S16x2048x1, .f32⟩
  | 4 => ⟨S16x2048, .f32⟩
  | 5 => ⟨S_, .f32⟩
  | 6 => ⟨S_, .f32⟩
  | 7 => ⟨S_, .f32⟩
  | 8 => ⟨S16x2048, .f32⟩
  | 9 => ⟨S16x2048, .f32⟩
  | 10 => ⟨S_, .f32⟩
  | 11 => ⟨S16x2048, .f32⟩
  | 12 => ⟨S16x2048, .f32⟩
  | 13 => ⟨S16x2048, .f32⟩
  | 14 => ⟨S16x2048, .i32⟩
  | 15 => ⟨S_, .i32⟩
  | 16 => ⟨S_, .i32⟩
  | 17 => ⟨S_, .i32⟩
  | 18 => ⟨S16x2048, .i32⟩
  | 19 => ⟨S16x2048, .i32⟩
  | 20 => ⟨S_, .i32⟩
  | 21 => ⟨S16x2048, .i32⟩
  | 22 => ⟨S16x2048, .i32⟩
  | 23 => ⟨S_, .i32⟩
  | 24 => ⟨S16x2048, .i32⟩
  | 25 => ⟨S16x2048, .i32⟩
  | 26 => ⟨S16x2048, .f32⟩
  | 27 => ⟨S16x2048, .f32⟩
  | 28 => ⟨S_, .i32⟩
  | 29 => ⟨S16x2048, .i32⟩
  | 30 => ⟨S16x2048, .i1⟩
  | 31 => ⟨S_, .i32⟩
  | 32 => ⟨S16x2048, .i32⟩
  | 33 => ⟨S16x2048, .i32⟩
  | 34 => ⟨S16x2048, .i32⟩
  | 35 => ⟨S16x2048x1, .i32⟩
  | 36 => ⟨S1, .i32⟩
  | 37 => ⟨S_, .i32⟩
  | 38 => ⟨S16x2048x1, .i32⟩
  | 39 => ⟨S16x2048x1, .i1⟩
  | 40 => ⟨S1x1x1, .i32⟩
  | 41 => ⟨S16x2048x1, .i32⟩
  | 42 => ⟨S16x2048x1, .i1⟩
  | 43 => ⟨S16x2048x1, .i1⟩
  | 44 => ⟨S_, .i1⟩
  | 45 => ⟨S16x2048, .i1⟩
  | 46 => ⟨S16x2048, .f32⟩
  | 47 => ⟨S_, .f32⟩
  | 48 => ⟨S16x2048, .f32⟩
  | 49 => ⟨S16x2048, .f32⟩
  | 50 => ⟨S_, .i32⟩
  | 51 => ⟨S16x2048, .i32⟩
  | 52 => ⟨S16x2048, .i1⟩
  | 53 => ⟨S_, .i32⟩
  | 54 => ⟨S16x2048, .i32⟩
  | 55 => ⟨S16x2048, .i32⟩
  | 56 => ⟨S16x2048, .i32⟩
  | 57 => ⟨S16x2048x1, .i32⟩
  | 58 => ⟨S1, .i32⟩
  | 59 => ⟨S_, .i32⟩
  | 60 => ⟨S16x2048x1, .i32⟩
  | 61 => ⟨S16x2048x1, .i1⟩
  | 62 => ⟨S1x1x1, .i32⟩
  | 63 => ⟨S16x2048x1, .i32⟩
  | 64 => ⟨S16x2048x1, .i1⟩
  | 65 => ⟨S16x2048x1, .i1⟩
  | 66 => ⟨S_, .i1⟩
  | 67 => ⟨S16x2048, .i1⟩
  | 68 => ⟨S16x2048, .f32⟩
  | 69 => ⟨S_, .f32⟩
  | 70 => ⟨S16x2048, .f32⟩
  | 71 => ⟨S16x2048, .f32⟩
  | 72 => ⟨S_, .f32⟩
  | 73 => ⟨S16x2048, .f32⟩
  | 74 => ⟨S16x2048, .f32⟩
  | 75 => ⟨S16x2048, .f32⟩
  | 76 => ⟨S16x2048, .f32⟩
  | 77 => ⟨S16x2048, .f32⟩
  | 78 => ⟨S16x2048, .f32⟩
  | 79 => ⟨S16x2048x1, .f32⟩
  | 80 => ⟨S16x2048, .f32⟩
  | 81 => ⟨S_, .f32⟩
  | 82 => ⟨S_, .f32⟩
  | 83 => ⟨S_, .f32⟩
  | 84 => ⟨S16x2048, .f32⟩
  | 85 => ⟨S16x2048, .f32⟩
  | 86 => ⟨S_, .f32⟩
  | 87 => ⟨S16x2048, .f32⟩
  | 88 => ⟨S16x2048, .f32⟩
  | 89 => ⟨S16x2048, .f32⟩
  | 90 => ⟨S16x2048, .i32⟩
  | 91 => ⟨S_, .i32⟩
  | 92 => ⟨S_, .i32⟩
  | 93 => ⟨S_, .i32⟩
  | 94 => ⟨S16x2048, .i32⟩
  | 95 => ⟨S16x2048, .i32⟩
  | 96 => ⟨S_, .i32⟩
  | 97 => ⟨S16x2048, .i32⟩
  | 98 => ⟨S16x2048, .i32⟩
  | 99 => ⟨S_, .i32⟩
  | 100 => ⟨S16x2048, .i32⟩
  | 101 => ⟨S16x2048, .i32⟩
  | 102 => ⟨S16x2048, .f32⟩
  | 103 => ⟨S16x2048, .f32⟩
  | 104 => ⟨S_, .i32⟩
  | 105 => ⟨S16x2048, .i32⟩
  | 106 => ⟨S16x2048, .i1⟩
  | 107 => ⟨S_, .i32⟩
  | 108 => ⟨S16x2048, .i32⟩
  | 109 => ⟨S16x2048, .i32⟩
  | 110 => ⟨S16x2048, .i32⟩
  | 111 => ⟨S16x2048x1, .i32⟩
  | 112 => ⟨S1, .i32⟩
  | 113 => ⟨S_, .i32⟩
  | 114 => ⟨S16x2048x1, .i32⟩
  | 115 => ⟨S16x2048x1, .i1⟩
  | 116 => ⟨S1x1x1, .i32⟩
  | 117 => ⟨S16x2048x1, .i32⟩
  | 118 => ⟨S16x2048x1, .i1⟩
  | 119 => ⟨S16x2048x1, .i1⟩
  | 120 => ⟨S_, .i1⟩
  | 121 => ⟨S16x2048, .i1⟩
  | 122 => ⟨S16x2048, .f32⟩
  | 123 => ⟨S_, .f32⟩
  | 124 => ⟨S16x2048, .f32⟩
  | 125 => ⟨S16x2048, .f32⟩
  | 126 => ⟨S_, .i32⟩
  | 127 => ⟨S16x2048, .i32⟩
  | _ => ⟨S16x2048x512, .f32⟩

abbrev hbmTy0_4 (i : Nat) : BufTy := match i % 128 with
  | 0 => ⟨S16x2048, .i1⟩
  | 1 => ⟨S_, .i32⟩
  | 2 => ⟨S16x2048, .i32⟩
  | 3 => ⟨S16x2048, .i32⟩
  | 4 => ⟨S16x2048, .i32⟩
  | 5 => ⟨S16x2048x1, .i32⟩
  | 6 => ⟨S1, .i32⟩
  | 7 => ⟨S_, .i32⟩
  | 8 => ⟨S16x2048x1, .i32⟩
  | 9 => ⟨S16x2048x1, .i1⟩
  | 10 => ⟨S1x1x1, .i32⟩
  | 11 => ⟨S16x2048x1, .i32⟩
  | 12 => ⟨S16x2048x1, .i1⟩
  | 13 => ⟨S16x2048x1, .i1⟩
  | 14 => ⟨S_, .i1⟩
  | 15 => ⟨S16x2048, .i1⟩
  | 16 => ⟨S16x2048, .f32⟩
  | 17 => ⟨S_, .f32⟩
  | 18 => ⟨S16x2048, .f32⟩
  | 19 => ⟨S16x2048, .f32⟩
  | 20 => ⟨S_, .f32⟩
  | 21 => ⟨S16x2048, .f32⟩
  | 22 => ⟨S16x2048, .f32⟩
  | 23 => ⟨S16x2048, .f32⟩
  | 24 => ⟨S16x2048, .f32⟩
  | 25 => ⟨S16x2048, .f32⟩
  | 26 => ⟨S16x2048, .f32⟩
  | 27 => ⟨S16x2048x1, .f32⟩
  | 28 => ⟨S16x2048, .f32⟩
  | 29 => ⟨S_, .f32⟩
  | 30 => ⟨S_, .f32⟩
  | 31 => ⟨S_, .f32⟩
  | 32 => ⟨S16x2048, .f32⟩
  | 33 => ⟨S16x2048, .f32⟩
  | 34 => ⟨S_, .f32⟩
  | 35 => ⟨S16x2048, .f32⟩
  | 36 => ⟨S16x2048, .f32⟩
  | 37 => ⟨S16x2048, .f32⟩
  | 38 => ⟨S16x2048, .i32⟩
  | 39 => ⟨S_, .i32⟩
  | 40 => ⟨S_, .i32⟩
  | 41 => ⟨S_, .i32⟩
  | 42 => ⟨S16x2048, .i32⟩
  | 43 => ⟨S16x2048, .i32⟩
  | 44 => ⟨S_, .i32⟩
  | 45 => ⟨S16x2048, .i32⟩
  | 46 => ⟨S16x2048, .i32⟩
  | 47 => ⟨S_, .i32⟩
  | 48 => ⟨S16x2048, .i32⟩
  | 49 => ⟨S16x2048, .i32⟩
  | 50 => ⟨S16x2048, .f32⟩
  | 51 => ⟨S16x2048, .f32⟩
  | 52 => ⟨S_, .i32⟩
  | 53 => ⟨S16x2048, .i32⟩
  | 54 => ⟨S16x2048, .i1⟩
  | 55 => ⟨S_, .i32⟩
  | 56 => ⟨S16x2048, .i32⟩
  | 57 => ⟨S16x2048, .i32⟩
  | 58 => ⟨S16x2048, .i32⟩
  | 59 => ⟨S16x2048x1, .i32⟩
  | 60 => ⟨S1, .i32⟩
  | 61 => ⟨S_, .i32⟩
  | 62 => ⟨S16x2048x1, .i32⟩
  | 63 => ⟨S16x2048x1, .i1⟩
  | 64 => ⟨S1x1x1, .i32⟩
  | 65 => ⟨S16x2048x1, .i32⟩
  | 66 => ⟨S16x2048x1, .i1⟩
  | 67 => ⟨S16x2048x1, .i1⟩
  | 68 => ⟨S_, .i1⟩
  | 69 => ⟨S16x2048, .i1⟩
  | 70 => ⟨S16x2048, .f32⟩
  | 71 => ⟨S_, .f32⟩
  | 72 => ⟨S16x2048, .f32⟩
  | 73 => ⟨S16x2048, .f32⟩
  | 74 => ⟨S_, .i32⟩
  | 75 => ⟨S16x2048, .i32⟩
  | 76 => ⟨S16x2048, .i1⟩
  | 77 => ⟨S_, .i32⟩
  | 78 => ⟨S16x2048, .i32⟩
  | 79 => ⟨S16x2048, .i32⟩
  | 80 => ⟨S16x2048, .i32⟩
  | 81 => ⟨S16x2048x1, .i32⟩
  | 82 => ⟨S1, .i32⟩
  | 83 => ⟨S_, .i32⟩
  | 84 => ⟨S16x2048x1, .i32⟩
  | 85 => ⟨S16x2048x1, .i1⟩
  | 86 => ⟨S1x1x1, .i32⟩
  | 87 => ⟨S16x2048x1, .i32⟩
  | 88 => ⟨S16x2048x1, .i1⟩
  | 89 => ⟨S16x2048x1, .i1⟩
  | 90 => ⟨S_, .i1⟩
  | 91 => ⟨S16x2048, .i1⟩
  | 92 => ⟨S16x2048, .f32⟩
  | 93 => ⟨S_, .f32⟩
  | 94 => ⟨S16x2048, .f32⟩
  | 95 => ⟨S16x2048, .f32⟩
  | 96 => ⟨S_, .f32⟩
  | 97 => ⟨S16x2048, .f32⟩
  | 98 => ⟨S16x2048, .f32⟩
  | 99 => ⟨S16x2048, .f32⟩
  | 100 => ⟨S16x2048, .f32⟩
  | 101 => ⟨S16x2048, .f32⟩
  | 102 => ⟨S16x2048, .f32⟩
  | 103 => ⟨S16x512x2048, .f32⟩
  | 104 => ⟨S_, .f32⟩
  | 105 => ⟨S_, .f32⟩
  | 106 => ⟨S_, .f32⟩
  | 107 => ⟨S16x2048, .f32⟩
  | 108 => ⟨S16x2048, .f32⟩
  | 109 => ⟨S_, .f32⟩
  | 110 => ⟨S16x2048, .f32⟩
  | 111 => ⟨S16x2048, .f32⟩
  | 112 => ⟨S16x2048, .f32⟩
  | 113 => ⟨S16x2048, .i32⟩
  | 114 => ⟨S_, .i32⟩
  | 115 => ⟨S_, .i32⟩
  | 116 => ⟨S_, .i32⟩
  | 117 => ⟨S16x2048, .i32⟩
  | 118 => ⟨S16x2048, .i32⟩
  | 119 => ⟨S_, .i32⟩
  | 120 => ⟨S16x2048, .i32⟩
  | 121 => ⟨S16x2048, .i32⟩
  | 122 => ⟨S16x2048, .f32⟩
  | 123 => ⟨S16x2048, .f32⟩
  | 124 => ⟨S16x1x2048, .f32⟩
  | 125 => ⟨S_, .i32⟩
  | 126 => ⟨S16x2048, .i32⟩
  | 127 => ⟨S16x2048, .i32⟩
  | _ => ⟨S16x2048x512, .f32⟩

abbrev hbmTy0_5 (i : Nat) : BufTy := match i % 128 with
  | 0 => ⟨S_, .i32⟩
  | 1 => ⟨S_, .i32⟩
  | 2 => ⟨S_, .i32⟩
  | 3 => ⟨S16x2048, .i32⟩
  | 4 => ⟨S16x2048, .i32⟩
  | 5 => ⟨S_, .i32⟩
  | 6 => ⟨S16x2048, .i32⟩
  | 7 => ⟨S16x2048, .i32⟩
  | 8 => ⟨S_, .i32⟩
  | 9 => ⟨S16x2048, .i32⟩
  | 10 => ⟨S16x2048, .i32⟩
  | 11 => ⟨S_, .i32⟩
  | 12 => ⟨S16x2048, .i32⟩
  | 13 => ⟨S16x2048, .i32⟩
  | 14 => ⟨S_, .i32⟩
  | 15 => ⟨S_, .i32⟩
  | 16 => ⟨S_, .i32⟩
  | 17 => ⟨S16x2048, .i32⟩
  | 18 => ⟨S16x2048, .i32⟩
  | 19 => ⟨S_, .i32⟩
  | 20 => ⟨S16x2048, .i32⟩
  | 21 => ⟨S16x2048, .i32⟩
  | 22 => ⟨S16x1x2048, .i32⟩
  | 23 => ⟨S16x512x2048, .i32⟩
  | 24 => ⟨S_, .i32⟩
  | 25 => ⟨S16x512x2048, .i32⟩
  | 26 => ⟨S16x512x2048, .i1⟩
  | 27 => ⟨S_, .i32⟩
  | 28 => ⟨S16x512x2048, .i32⟩
  | 29 => ⟨S16x512x2048, .i32⟩
  | 30 => ⟨S16x512x2048, .i32⟩
  | 31 => ⟨S16x512x2048x1, .i32⟩
  | 32 => ⟨S1, .i32⟩
  | 33 => ⟨S_, .i32⟩
  | 34 => ⟨S16x512x2048x1, .i32⟩
  | 35 => ⟨S16x512x2048x1, .i1⟩
  | 36 => ⟨S1x1x1x1, .i32⟩
  | 37 => ⟨S16x512x2048x1, .i32⟩
  | 38 => ⟨S16x512x2048x1, .i1⟩
  | 39 => ⟨S16x512x2048x1, .i1⟩
  | 40 => ⟨S_, .i1⟩
  | 41 => ⟨S16x512x2048, .i1⟩
  | 42 => ⟨S16x512x2048, .f32⟩
  | 43 => ⟨S_, .f32⟩
  | 44 => ⟨S16x512x2048, .f32⟩
  | 45 => ⟨S16x512x2048, .f32⟩
  | 46 => ⟨S16x1x2048, .i32⟩
  | 47 => ⟨S16x512x2048, .i32⟩
  | 48 => ⟨S_, .i32⟩
  | 49 => ⟨S16x512x2048, .i32⟩
  | 50 => ⟨S16x512x2048, .i1⟩
  | 51 => ⟨S_, .i32⟩
  | 52 => ⟨S16x512x2048, .i32⟩
  | 53 => ⟨S16x512x2048, .i32⟩
  | 54 => ⟨S16x512x2048, .i32⟩
  | 55 => ⟨S16x512x2048x1, .i32⟩
  | 56 => ⟨S1, .i32⟩
  | 57 => ⟨S_, .i32⟩
  | 58 => ⟨S16x512x2048x1, .i32⟩
  | 59 => ⟨S16x512x2048x1, .i1⟩
  | 60 => ⟨S1x1x1x1, .i32⟩
  | 61 => ⟨S16x512x2048x1, .i32⟩
  | 62 => ⟨S16x512x2048x1, .i1⟩
  | 63 => ⟨S16x512x2048x1, .i1⟩
  | 64 => ⟨S_, .i1⟩
  | 65 => ⟨S16x512x2048, .i1⟩
  | 66 => ⟨S16x512x2048, .f32⟩
  | 67 => ⟨S_, .f32⟩
  | 68 => ⟨S16x512x2048, .f32⟩
  | 69 => ⟨S16x512x2048, .f32⟩
  | 70 => ⟨S16x1x2048, .i32⟩
  | 71 => ⟨S16x512x2048, .i32⟩
  | 72 => ⟨S_, .i32⟩
  | 73 => ⟨S16x512x2048, .i32⟩
  | 74 => ⟨S16x512x2048, .i1⟩
  | 75 => ⟨S_, .i32⟩
  | 76 => ⟨S16x512x2048, .i32⟩
  | 77 => ⟨S16x512x2048, .i32⟩
  | 78 => ⟨S16x512x2048, .i32⟩
  | 79 => ⟨S16x512x2048x1, .i32⟩
  | 80 => ⟨S1, .i32⟩
  | 81 => ⟨S_, .i32⟩
  | 82 => ⟨S16x512x2048x1, .i32⟩
  | 83 => ⟨S16x512x2048x1, .i1⟩
  | 84 => ⟨S1x1x1x1, .i32⟩
  | 85 => ⟨S16x512x2048x1, .i32⟩
  | 86 => ⟨S16x512x2048x1, .i1⟩
  | 87 => ⟨S16x512x2048x1, .i1⟩
  | 88 => ⟨S_, .i1⟩
  | 89 => ⟨S16x512x2048, .i1⟩
  | 90 => ⟨S16x512x2048, .f32⟩
  | 91 => ⟨S_, .f32⟩
  | 92 => ⟨S16x512x2048, .f32⟩
  | 93 => ⟨S16x512x2048, .f32⟩
  | 94 => ⟨S16x1x2048, .i32⟩
  | 95 => ⟨S16x512x2048, .i32⟩
  | 96 => ⟨S_, .i32⟩
  | 97 => ⟨S16x512x2048, .i32⟩
  | 98 => ⟨S16x512x2048, .i1⟩
  | 99 => ⟨S_, .i32⟩
  | 100 => ⟨S16x512x2048, .i32⟩
  | 101 => ⟨S16x512x2048, .i32⟩
  | 102 => ⟨S16x512x2048, .i32⟩
  | 103 => ⟨S16x512x2048x1, .i32⟩
  | 104 => ⟨S1, .i32⟩
  | 105 => ⟨S_, .i32⟩
  | 106 => ⟨S16x512x2048x1, .i32⟩
  | 107 => ⟨S16x512x2048x1, .i1⟩
  | 108 => ⟨S1x1x1x1, .i32⟩
  | 109 => ⟨S16x512x2048x1, .i32⟩
  | 110 => ⟨S16x512x2048x1, .i1⟩
  | 111 => ⟨S16x512x2048x1, .i1⟩
  | 112 => ⟨S_, .i1⟩
  | 113 => ⟨S16x512x2048, .i1⟩
  | 114 => ⟨S16x512x2048, .f32⟩
  | 115 => ⟨S_, .f32⟩
  | 116 => ⟨S16x512x2048, .f32⟩
  | 117 => ⟨S16x512x2048, .f32⟩
  | 118 => ⟨S16x1x2048, .f32⟩
  | 119 => ⟨S16x1x2048, .f32⟩
  | 120 => ⟨S_, .f32⟩
  | 121 => ⟨S16x512x2048, .f32⟩
  | 122 => ⟨S16x512x2048, .f32⟩
  | 123 => ⟨S16x512x2048, .f32⟩
  | 124 => ⟨S16x512x2048, .f32⟩
  | 125 => ⟨S16x512x2048, .f32⟩
  | 126 => ⟨S16x512x2048, .f32⟩
  | 127 => ⟨S16x512x2048, .f32⟩
  | _ => ⟨S16x2048x512, .f32⟩

abbrev hbmTy0_6 (i : Nat) : BufTy := match i % 128 with
  | 0 => ⟨S_, .f32⟩
  | 1 => ⟨S16x512x2048, .f32⟩
  | 2 => ⟨S16x512x2048, .f32⟩
  | 3 => ⟨S_, .f32⟩
  | 4 => ⟨S16x512x2048, .f32⟩
  | 5 => ⟨S16x512x2048, .f32⟩
  | 6 => ⟨S16x512x2048, .f32⟩
  | 7 => ⟨S_, .f32⟩
  | 8 => ⟨S16x512x2048, .f32⟩
  | 9 => ⟨S16x512x2048, .f32⟩
  | 10 => ⟨S16x512x2048, .f32⟩
  | 11 => ⟨S16x512x2048, .f32⟩
  | 12 => ⟨S16x512x2048, .f32⟩
  | 13 => ⟨S16x512x2048, .f32⟩
  | 14 => ⟨S16x512x2048, .f32⟩
  | 15 => ⟨S16x512x2048, .f32⟩
  | 16 => ⟨S_, .f32⟩
  | 17 => ⟨S16x512x2048, .f32⟩
  | 18 => ⟨S16x512x2048, .f32⟩
  | 19 => ⟨S16x512x2048, .f32⟩
  | 20 => ⟨S_, .f32⟩
  | 21 => ⟨S16x512x2048, .f32⟩
  | 22 => ⟨S16x512x2048, .f32⟩
  | 23 => ⟨S16x512x2048, .f32⟩
  | 24 => ⟨S16x512x2048, .f32⟩
  | 25 => ⟨S16x512x2048, .f32⟩
  | 26 => ⟨S16x512x2048, .f32⟩
  | 27 => ⟨S16x512x2048, .f32⟩
  | 28 => ⟨S_, .f32⟩
  | 29 => ⟨S16x512x2048, .f32⟩
  | 30 => ⟨S16x512x2048, .f32⟩
  | 31 => ⟨S16x2048x512, .f32⟩
  | _ => ⟨S16x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v14 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v15 : Ref sig .tc := ⟨.hbm, 75, rfl⟩
abbrev main_cst_4 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_cst_5 : Ref sig .tc := ⟨.hbm, 85, rfl⟩
abbrev main_cst_6 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_c_7 : Ref sig .tc := ⟨.hbm, 95, rfl⟩
abbrev main_c_8 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v27 : Ref sig .tc := ⟨.hbm, 102, rfl⟩
abbrev main_c_9 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_cst : Ref sig .tc := ⟨.hbm, 127, rfl⟩
abbrev main_call6_v14 : Ref sig .tc := ⟨.hbm, 128, rfl⟩
abbrev main_v32 : Ref sig .tc := ⟨.hbm, 129, rfl⟩
abbrev main_call7_c : Ref sig .tc := ⟨.hbm, 130, rfl⟩
abbrev main_call7_v0 : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_c_1 : Ref sig .tc := ⟨.hbm, 138, rfl⟩
abbrev main_call7_c_2 : Ref sig .tc := ⟨.hbm, 139, rfl⟩
abbrev main_call7_v6 : Ref sig .tc := ⟨.hbm, 140, rfl⟩
abbrev main_call7_v7 : Ref sig .tc := ⟨.hbm, 141, rfl⟩
abbrev main_call7_v8 : Ref sig .tc := ⟨.hbm, 142, rfl⟩
abbrev main_call7_v9 : Ref sig .tc := ⟨.hbm, 143, rfl⟩
abbrev main_call7_v10 : Ref sig .tc := ⟨.hbm, 144, rfl⟩
abbrev main_call7_v11 : Ref sig .tc := ⟨.hbm, 145, rfl⟩
abbrev main_call7_c_3 : Ref sig .tc := ⟨.hbm, 146, rfl⟩
abbrev main_call7_v12 : Ref sig .tc := ⟨.hbm, 147, rfl⟩
abbrev main_call7_v13 : Ref sig .tc := ⟨.hbm, 148, rfl⟩
abbrev main_call7_cst : Ref sig .tc := ⟨.hbm, 149, rfl⟩
abbrev main_call7_v14 : Ref sig .tc := ⟨.hbm, 150, rfl⟩
abbrev main_v33 : Ref sig .tc := ⟨.hbm, 151, rfl⟩
abbrev main_cst_10 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_cst_11 : Ref sig .tc := ⟨.hbm, 161, rfl⟩
abbrev main_cst_12 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_c_13 : Ref sig .tc := ⟨.hbm, 171, rfl⟩
abbrev main_c_14 : Ref sig .tc := ⟨.hbm, 172, rfl⟩
abbrev main_call9_v0 : Ref sig .tc := ⟨.hbm, 173, rfl⟩
abbrev main_call9_v1 : Ref sig .tc := ⟨.hbm, 174, rfl⟩
abbrev main_call9_v2 : Ref sig .tc := ⟨.hbm, 175, rfl⟩
abbrev main_call9_v3 : Ref sig .tc := ⟨.hbm, 176, rfl⟩
abbrev main_call9_v4 : Ref sig .tc := ⟨.hbm, 177, rfl⟩
abbrev main_v45 : Ref sig .tc := ⟨.hbm, 178, rfl⟩
abbrev main_c_15 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_v49 : Ref sig .tc := ⟨.hbm, 183, rfl⟩
abbrev main_call10_c : Ref sig .tc := ⟨.hbm, 184, rfl⟩
abbrev main_call10_v0 : Ref sig .tc := ⟨.hbm, 185, rfl⟩
abbrev main_call10_v1 : Ref sig .tc := ⟨.hbm, 186, rfl⟩
abbrev main_call10_c_0 : Ref sig .tc := ⟨.hbm, 187, rfl⟩
abbrev main_call10_v2 : Ref sig .tc := ⟨.hbm, 188, rfl⟩
abbrev main_call10_v3 : Ref sig .tc := ⟨.hbm, 189, rfl⟩
abbrev main_call10_v4 : Ref sig .tc := ⟨.hbm, 190, rfl⟩
abbrev main_call10_v5 : Ref sig .tc := ⟨.hbm, 191, rfl⟩
abbrev main_call10_c_1 : Ref sig .tc := ⟨.hbm, 192, rfl⟩
abbrev main_call10_c_2 : Ref sig .tc := ⟨.hbm, 193, rfl⟩
abbrev main_call10_v6 : Ref sig .tc := ⟨.hbm, 194, rfl⟩
abbrev main_call10_v7 : Ref sig .tc := ⟨.hbm, 195, rfl⟩
abbrev main_call10_v8 : Ref sig .tc := ⟨.hbm, 196, rfl⟩
abbrev main_call10_v9 : Ref sig .tc := ⟨.hbm, 197, rfl⟩
abbrev main_call10_v10 : Ref sig .tc := ⟨.hbm, 198, rfl⟩
abbrev main_call10_v11 : Ref sig .tc := ⟨.hbm, 199, rfl⟩
abbrev main_call10_c_3 : Ref sig .tc := ⟨.hbm, 200, rfl⟩
abbrev main_call10_v12 : Ref sig .tc := ⟨.hbm, 201, rfl⟩
abbrev main_call10_v13 : Ref sig .tc := ⟨.hbm, 202, rfl⟩
abbrev main_call10_cst : Ref sig .tc := ⟨.hbm, 203, rfl⟩
abbrev main_call10_v14 : Ref sig .tc := ⟨.hbm, 204, rfl⟩
abbrev main_v50 : Ref sig .tc := ⟨.hbm, 205, rfl⟩
abbrev main_call11_c : Ref sig .tc := ⟨.hbm, 206, rfl⟩
abbrev main_call11_v0 : Ref sig .tc := ⟨.hbm, 207, rfl⟩
abbrev main_call11_v1 : Ref sig .tc := ⟨.hbm, 208, rfl⟩
abbrev main_call11_c_0 : Ref sig .tc := ⟨.hbm, 209, rfl⟩
abbrev main_call11_v2 : Ref sig .tc := ⟨.hbm, 210, rfl⟩
abbrev main_call11_v3 : Ref sig .tc := ⟨.hbm, 211, rfl⟩
abbrev main_call11_v4 : Ref sig .tc := ⟨.hbm, 212, rfl⟩
abbrev main_call11_v5 : Ref sig .tc := ⟨.hbm, 213, rfl⟩
abbrev main_call11_c_1 : Ref sig .tc := ⟨.hbm, 214, rfl⟩
abbrev main_call11_c_2 : Ref sig .tc := ⟨.hbm, 215, rfl⟩
abbrev main_call11_v6 : Ref sig .tc := ⟨.hbm, 216, rfl⟩
abbrev main_call11_v7 : Ref sig .tc := ⟨.hbm, 217, rfl⟩
abbrev main_call11_v8 : Ref sig .tc := ⟨.hbm, 218, rfl⟩
abbrev main_call11_v9 : Ref sig .tc := ⟨.hbm, 219, rfl⟩
abbrev main_call11_v10 : Ref sig .tc := ⟨.hbm, 220, rfl⟩
abbrev main_call11_v11 : Ref sig .tc := ⟨.hbm, 221, rfl⟩
abbrev main_call11_c_3 : Ref sig .tc := ⟨.hbm, 222, rfl⟩
abbrev main_call11_v12 : Ref sig .tc := ⟨.hbm, 223, rfl⟩
abbrev main_call11_v13 : Ref sig .tc := ⟨.hbm, 224, rfl⟩
abbrev main_call11_cst : Ref sig .tc := ⟨.hbm, 225, rfl⟩
abbrev main_call11_v14 : Ref sig .tc := ⟨.hbm, 226, rfl⟩
abbrev main_v51 : Ref sig .tc := ⟨.hbm, 227, rfl⟩
abbrev main_cst_16 : Ref sig .tc := ⟨.hbm, 228, rfl⟩
abbrev main_v52 : Ref sig .tc := ⟨.hbm, 229, rfl⟩
abbrev main_v53 : Ref sig .tc := ⟨.hbm, 230, rfl⟩
abbrev main_v54 : Ref sig .tc := ⟨.hbm, 231, rfl⟩
abbrev main_v55 : Ref sig .tc := ⟨.hbm, 232, rfl⟩
abbrev main_v56 : Ref sig .tc := ⟨.hbm, 233, rfl⟩
abbrev main_v57 : Ref sig .tc := ⟨.hbm, 234, rfl⟩
abbrev main_v58 : Ref sig .tc := ⟨.hbm, 235, rfl⟩
abbrev main_v59 : Ref sig .tc := ⟨.hbm, 236, rfl⟩
abbrev main_cst_17 : Ref sig .tc := ⟨.hbm, 237, rfl⟩
abbrev main_cst_18 : Ref sig .tc := ⟨.hbm, 238, rfl⟩
abbrev main_call12_v0 : Ref sig .tc := ⟨.hbm, 239, rfl⟩
abbrev main_call12_v1 : Ref sig .tc := ⟨.hbm, 240, rfl⟩
abbrev main_call12_v2 : Ref sig .tc := ⟨.hbm, 241, rfl⟩
abbrev main_call12_v3 : Ref sig .tc := ⟨.hbm, 242, rfl⟩
abbrev main_call12_v4 : Ref sig .tc := ⟨.hbm, 243, rfl⟩
abbrev main_v60 : Ref sig .tc := ⟨.hbm, 244, rfl⟩
abbrev main_v61 : Ref sig .tc := ⟨.hbm, 245, rfl⟩
abbrev main_v62 : Ref sig .tc := ⟨.hbm, 246, rfl⟩
abbrev main_c_19 : Ref sig .tc := ⟨.hbm, 247, rfl⟩
abbrev main_c_20 : Ref sig .tc := ⟨.hbm, 248, rfl⟩
abbrev main_call13_v0 : Ref sig .tc := ⟨.hbm, 249, rfl⟩
abbrev main_call13_v1 : Ref sig .tc := ⟨.hbm, 250, rfl⟩
abbrev main_call13_v2 : Ref sig .tc := ⟨.hbm, 251, rfl⟩
abbrev main_call13_v3 : Ref sig .tc := ⟨.hbm, 252, rfl⟩
abbrev main_call13_v4 : Ref sig .tc := ⟨.hbm, 253, rfl⟩
abbrev main_v63 : Ref sig .tc := ⟨.hbm, 254, rfl⟩
abbrev main_c_21 : Ref sig .tc := ⟨.hbm, 255, rfl⟩
abbrev main_v64 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_call14_c : Ref sig .tc := ⟨.hbm, 260, rfl⟩
abbrev main_call14_v0 : Ref sig .tc := ⟨.hbm, 261, rfl⟩
abbrev main_call14_v1 : Ref sig .tc := ⟨.hbm, 262, rfl⟩
abbrev main_call14_c_0 : Ref sig .tc := ⟨.hbm, 263, rfl⟩
abbrev main_call14_v2 : Ref sig .tc := ⟨.hbm, 264, rfl⟩
abbrev main_call14_v3 : Ref sig .tc := ⟨.hbm, 265, rfl⟩
abbrev main_call14_v4 : Ref sig .tc := ⟨.hbm, 266, rfl⟩
abbrev main_call14_v5 : Ref sig .tc := ⟨.hbm, 267, rfl⟩
abbrev main_call14_c_1 : Ref sig .tc := ⟨.hbm, 268, rfl⟩
abbrev main_call14_c_2 : Ref sig .tc := ⟨.hbm, 269, rfl⟩
abbrev main_call14_v6 : Ref sig .tc := ⟨.hbm, 270, rfl⟩
abbrev main_call14_v7 : Ref sig .tc := ⟨.hbm, 271, rfl⟩
abbrev main_call14_v8 : Ref sig .tc := ⟨.hbm, 272, rfl⟩
abbrev main_call14_v9 : Ref sig .tc := ⟨.hbm, 273, rfl⟩
abbrev main_call14_v10 : Ref sig .tc := ⟨.hbm, 274, rfl⟩
abbrev main_call14_v11 : Ref sig .tc := ⟨.hbm, 275, rfl⟩
abbrev main_call14_c_3 : Ref sig .tc := ⟨.hbm, 276, rfl⟩
abbrev main_call14_v12 : Ref sig .tc := ⟨.hbm, 277, rfl⟩
abbrev main_call14_v13 : Ref sig .tc := ⟨.hbm, 278, rfl⟩
abbrev main_call14_cst : Ref sig .tc := ⟨.hbm, 279, rfl⟩
abbrev main_call14_v14 : Ref sig .tc := ⟨.hbm, 280, rfl⟩
abbrev main_v68 : Ref sig .tc := ⟨.hbm, 281, rfl⟩
abbrev main_call15_c : Ref sig .tc := ⟨.hbm, 282, rfl⟩
abbrev main_call15_v0 : Ref sig .tc := ⟨.hbm, 283, rfl⟩
abbrev main_call15_v1 : Ref sig .tc := ⟨.hbm, 284, rfl⟩
abbrev main_call15_c_0 : Ref sig .tc := ⟨.hbm, 285, rfl⟩
abbrev main_call15_v2 : Ref sig .tc := ⟨.hbm, 286, rfl⟩
abbrev main_call15_v3 : Ref sig .tc := ⟨.hbm, 287, rfl⟩
abbrev main_call15_v4 : Ref sig .tc := ⟨.hbm, 288, rfl⟩
abbrev main_call15_v5 : Ref sig .tc := ⟨.hbm, 289, rfl⟩
abbrev main_call15_c_1 : Ref sig .tc := ⟨.hbm, 290, rfl⟩
abbrev main_call15_c_2 : Ref sig .tc := ⟨.hbm, 291, rfl⟩
abbrev main_call15_v6 : Ref sig .tc := ⟨.hbm, 292, rfl⟩
abbrev main_call15_v7 : Ref sig .tc := ⟨.hbm, 293, rfl⟩
abbrev main_call15_v8 : Ref sig .tc := ⟨.hbm, 294, rfl⟩
abbrev main_call15_v9 : Ref sig .tc := ⟨.hbm, 295, rfl⟩
abbrev main_call15_v10 : Ref sig .tc := ⟨.hbm, 296, rfl⟩
abbrev main_call15_v11 : Ref sig .tc := ⟨.hbm, 297, rfl⟩
abbrev main_call15_c_3 : Ref sig .tc := ⟨.hbm, 298, rfl⟩
abbrev main_call15_v12 : Ref sig .tc := ⟨.hbm, 299, rfl⟩
abbrev main_call15_v13 : Ref sig .tc := ⟨.hbm, 300, rfl⟩
abbrev main_call15_cst : Ref sig .tc := ⟨.hbm, 301, rfl⟩
abbrev main_call15_v14 : Ref sig .tc := ⟨.hbm, 302, rfl⟩
abbrev main_v69 : Ref sig .tc := ⟨.hbm, 303, rfl⟩
abbrev main_cst_22 : Ref sig .tc := ⟨.hbm, 304, rfl⟩
abbrev main_v70 : Ref sig .tc := ⟨.hbm, 305, rfl⟩
abbrev main_v71 : Ref sig .tc := ⟨.hbm, 306, rfl⟩
abbrev main_v72 : Ref sig .tc := ⟨.hbm, 307, rfl⟩
abbrev main_v73 : Ref sig .tc := ⟨.hbm, 308, rfl⟩
abbrev main_v74 : Ref sig .tc := ⟨.hbm, 309, rfl⟩
abbrev main_v75 : Ref sig .tc := ⟨.hbm, 310, rfl⟩
abbrev main_v76 : Ref sig .tc := ⟨.hbm, 311, rfl⟩
abbrev main_v77 : Ref sig .tc := ⟨.hbm, 312, rfl⟩
abbrev main_cst_23 : Ref sig .tc := ⟨.hbm, 313, rfl⟩
abbrev main_cst_24 : Ref sig .tc := ⟨.hbm, 314, rfl⟩
abbrev main_call16_v0 : Ref sig .tc := ⟨.hbm, 315, rfl⟩
abbrev main_call16_v1 : Ref sig .tc := ⟨.hbm, 316, rfl⟩
abbrev main_call16_v2 : Ref sig .tc := ⟨.hbm, 317, rfl⟩
abbrev main_call16_v3 : Ref sig .tc := ⟨.hbm, 318, rfl⟩
abbrev main_call16_v4 : Ref sig .tc := ⟨.hbm, 319, rfl⟩
abbrev main_v78 : Ref sig .tc := ⟨.hbm, 320, rfl⟩
abbrev main_v79 : Ref sig .tc := ⟨.hbm, 321, rfl⟩
abbrev main_v80 : Ref sig .tc := ⟨.hbm, 322, rfl⟩
abbrev main_c_25 : Ref sig .tc := ⟨.hbm, 323, rfl⟩
abbrev main_c_26 : Ref sig .tc := ⟨.hbm, 324, rfl⟩
abbrev main_call17_v0 : Ref sig .tc := ⟨.hbm, 325, rfl⟩
abbrev main_call17_v1 : Ref sig .tc := ⟨.hbm, 326, rfl⟩
abbrev main_call17_v2 : Ref sig .tc := ⟨.hbm, 327, rfl⟩
abbrev main_call17_v3 : Ref sig .tc := ⟨.hbm, 328, rfl⟩
abbrev main_call17_v4 : Ref sig .tc := ⟨.hbm, 329, rfl⟩
abbrev main_v81 : Ref sig .tc := ⟨.hbm, 330, rfl⟩
abbrev main_c_27 : Ref sig .tc := ⟨.hbm, 331, rfl⟩
abbrev main_v82 : Ref sig .tc := ⟨.hbm, 332, rfl⟩
abbrev main_v83 : Ref sig .tc := ⟨.hbm, 333, rfl⟩
abbrev main_v84 : Ref sig .tc := ⟨.hbm, 334, rfl⟩
abbrev main_v85 : Ref sig .tc := ⟨.hbm, 335, rfl⟩
abbrev main_call18_c : Ref sig .tc := ⟨.hbm, 336, rfl⟩
abbrev main_call18_v0 : Ref sig .tc := ⟨.hbm, 337, rfl⟩
abbrev main_call18_v1 : Ref sig .tc := ⟨.hbm, 338, rfl⟩
abbrev main_call18_c_0 : Ref sig .tc := ⟨.hbm, 339, rfl⟩
abbrev main_call18_v2 : Ref sig .tc := ⟨.hbm, 340, rfl⟩
abbrev main_call18_v3 : Ref sig .tc := ⟨.hbm, 341, rfl⟩
abbrev main_call18_v4 : Ref sig .tc := ⟨.hbm, 342, rfl⟩
abbrev main_call18_v5 : Ref sig .tc := ⟨.hbm, 343, rfl⟩
abbrev main_call18_c_1 : Ref sig .tc := ⟨.hbm, 344, rfl⟩
abbrev main_call18_c_2 : Ref sig .tc := ⟨.hbm, 345, rfl⟩
abbrev main_call18_v6 : Ref sig .tc := ⟨.hbm, 346, rfl⟩
abbrev main_call18_v7 : Ref sig .tc := ⟨.hbm, 347, rfl⟩
abbrev main_call18_v8 : Ref sig .tc := ⟨.hbm, 348, rfl⟩
abbrev main_call18_v9 : Ref sig .tc := ⟨.hbm, 349, rfl⟩
abbrev main_call18_v10 : Ref sig .tc := ⟨.hbm, 350, rfl⟩
abbrev main_call18_v11 : Ref sig .tc := ⟨.hbm, 351, rfl⟩
abbrev main_call18_c_3 : Ref sig .tc := ⟨.hbm, 352, rfl⟩
abbrev main_call18_v12 : Ref sig .tc := ⟨.hbm, 353, rfl⟩
abbrev main_call18_v13 : Ref sig .tc := ⟨.hbm, 354, rfl⟩
abbrev main_call18_cst : Ref sig .tc := ⟨.hbm, 355, rfl⟩
abbrev main_call18_v14 : Ref sig .tc := ⟨.hbm, 356, rfl⟩
abbrev main_v86 : Ref sig .tc := ⟨.hbm, 357, rfl⟩
abbrev main_call19_c : Ref sig .tc := ⟨.hbm, 358, rfl⟩
abbrev main_call19_v0 : Ref sig .tc := ⟨.hbm, 359, rfl⟩
abbrev main_call19_v1 : Ref sig .tc := ⟨.hbm, 360, rfl⟩
abbrev main_call19_c_0 : Ref sig .tc := ⟨.hbm, 361, rfl⟩
abbrev main_call19_v2 : Ref sig .tc := ⟨.hbm, 362, rfl⟩
abbrev main_call19_v3 : Ref sig .tc := ⟨.hbm, 363, rfl⟩
abbrev main_call19_v4 : Ref sig .tc := ⟨.hbm, 364, rfl⟩
abbrev main_call19_v5 : Ref sig .tc := ⟨.hbm, 365, rfl⟩
abbrev main_call19_c_1 : Ref sig .tc := ⟨.hbm, 366, rfl⟩
abbrev main_call19_c_2 : Ref sig .tc := ⟨.hbm, 367, rfl⟩
abbrev main_call19_v6 : Ref sig .tc := ⟨.hbm, 368, rfl⟩
abbrev main_call19_v7 : Ref sig .tc := ⟨.hbm, 369, rfl⟩
abbrev main_call19_v8 : Ref sig .tc := ⟨.hbm, 370, rfl⟩
abbrev main_call19_v9 : Ref sig .tc := ⟨.hbm, 371, rfl⟩
abbrev main_call19_v10 : Ref sig .tc := ⟨.hbm, 372, rfl⟩
abbrev main_call19_v11 : Ref sig .tc := ⟨.hbm, 373, rfl⟩
abbrev main_call19_c_3 : Ref sig .tc := ⟨.hbm, 374, rfl⟩
abbrev main_call19_v12 : Ref sig .tc := ⟨.hbm, 375, rfl⟩
abbrev main_call19_v13 : Ref sig .tc := ⟨.hbm, 376, rfl⟩
abbrev main_call19_cst : Ref sig .tc := ⟨.hbm, 377, rfl⟩
abbrev main_call19_v14 : Ref sig .tc := ⟨.hbm, 378, rfl⟩
abbrev main_v87 : Ref sig .tc := ⟨.hbm, 379, rfl⟩
abbrev main_cst_28 : Ref sig .tc := ⟨.hbm, 380, rfl⟩
abbrev main_v88 : Ref sig .tc := ⟨.hbm, 381, rfl⟩
abbrev main_v89 : Ref sig .tc := ⟨.hbm, 382, rfl⟩
abbrev main_v90 : Ref sig .tc := ⟨.hbm, 383, rfl⟩
abbrev main_v91 : Ref sig .tc := ⟨.hbm, 384, rfl⟩
abbrev main_v92 : Ref sig .tc := ⟨.hbm, 385, rfl⟩
abbrev main_v93 : Ref sig .tc := ⟨.hbm, 386, rfl⟩
abbrev main_v94 : Ref sig .tc := ⟨.hbm, 387, rfl⟩
abbrev main_v95 : Ref sig .tc := ⟨.hbm, 388, rfl⟩
abbrev main_cst_29 : Ref sig .tc := ⟨.hbm, 389, rfl⟩
abbrev main_cst_30 : Ref sig .tc := ⟨.hbm, 390, rfl⟩
abbrev main_call20_v0 : Ref sig .tc := ⟨.hbm, 391, rfl⟩
abbrev main_call20_v1 : Ref sig .tc := ⟨.hbm, 392, rfl⟩
abbrev main_call20_v2 : Ref sig .tc := ⟨.hbm, 393, rfl⟩
abbrev main_call20_v3 : Ref sig .tc := ⟨.hbm, 394, rfl⟩
abbrev main_call20_v4 : Ref sig .tc := ⟨.hbm, 395, rfl⟩
abbrev main_v96 : Ref sig .tc := ⟨.hbm, 396, rfl⟩
abbrev main_v97 : Ref sig .tc := ⟨.hbm, 397, rfl⟩
abbrev main_v98 : Ref sig .tc := ⟨.hbm, 398, rfl⟩
abbrev main_c_31 : Ref sig .tc := ⟨.hbm, 399, rfl⟩
abbrev main_c_32 : Ref sig .tc := ⟨.hbm, 400, rfl⟩
abbrev main_call21_v0 : Ref sig .tc := ⟨.hbm, 401, rfl⟩
abbrev main_call21_v1 : Ref sig .tc := ⟨.hbm, 402, rfl⟩
abbrev main_call21_v2 : Ref sig .tc := ⟨.hbm, 403, rfl⟩
abbrev main_call21_v3 : Ref sig .tc := ⟨.hbm, 404, rfl⟩
abbrev main_call21_v4 : Ref sig .tc := ⟨.hbm, 405, rfl⟩
abbrev main_v99 : Ref sig .tc := ⟨.hbm, 406, rfl⟩
abbrev main_c_33 : Ref sig .tc := ⟨.hbm, 407, rfl⟩
abbrev main_v100 : Ref sig .tc := ⟨.hbm, 408, rfl⟩
abbrev main_v101 : Ref sig .tc := ⟨.hbm, 409, rfl⟩
abbrev main_v102 : Ref sig .tc := ⟨.hbm, 410, rfl⟩
abbrev main_v103 : Ref sig .tc := ⟨.hbm, 411, rfl⟩
abbrev main_call22_c : Ref sig .tc := ⟨.hbm, 412, rfl⟩
abbrev main_call22_v0 : Ref sig .tc := ⟨.hbm, 413, rfl⟩
abbrev main_call22_v1 : Ref sig .tc := ⟨.hbm, 414, rfl⟩
abbrev main_call22_c_0 : Ref sig .tc := ⟨.hbm, 415, rfl⟩
abbrev main_call22_v2 : Ref sig .tc := ⟨.hbm, 416, rfl⟩
abbrev main_call22_v3 : Ref sig .tc := ⟨.hbm, 417, rfl⟩
abbrev main_call22_v4 : Ref sig .tc := ⟨.hbm, 418, rfl⟩
abbrev main_call22_v5 : Ref sig .tc := ⟨.hbm, 419, rfl⟩
abbrev main_call22_c_1 : Ref sig .tc := ⟨.hbm, 420, rfl⟩
abbrev main_call22_c_2 : Ref sig .tc := ⟨.hbm, 421, rfl⟩
abbrev main_call22_v6 : Ref sig .tc := ⟨.hbm, 422, rfl⟩
abbrev main_call22_v7 : Ref sig .tc := ⟨.hbm, 423, rfl⟩
abbrev main_call22_v8 : Ref sig .tc := ⟨.hbm, 424, rfl⟩
abbrev main_call22_v9 : Ref sig .tc := ⟨.hbm, 425, rfl⟩
abbrev main_call22_v10 : Ref sig .tc := ⟨.hbm, 426, rfl⟩
abbrev main_call22_v11 : Ref sig .tc := ⟨.hbm, 427, rfl⟩
abbrev main_call22_c_3 : Ref sig .tc := ⟨.hbm, 428, rfl⟩
abbrev main_call22_v12 : Ref sig .tc := ⟨.hbm, 429, rfl⟩
abbrev main_call22_v13 : Ref sig .tc := ⟨.hbm, 430, rfl⟩
abbrev main_call22_cst : Ref sig .tc := ⟨.hbm, 431, rfl⟩
abbrev main_call22_v14 : Ref sig .tc := ⟨.hbm, 432, rfl⟩
abbrev main_v104 : Ref sig .tc := ⟨.hbm, 433, rfl⟩
abbrev main_call23_c : Ref sig .tc := ⟨.hbm, 434, rfl⟩
abbrev main_call23_v0 : Ref sig .tc := ⟨.hbm, 435, rfl⟩
abbrev main_call23_v1 : Ref sig .tc := ⟨.hbm, 436, rfl⟩
abbrev main_call23_c_0 : Ref sig .tc := ⟨.hbm, 437, rfl⟩
abbrev main_call23_v2 : Ref sig .tc := ⟨.hbm, 438, rfl⟩
abbrev main_call23_v3 : Ref sig .tc := ⟨.hbm, 439, rfl⟩
abbrev main_call23_v4 : Ref sig .tc := ⟨.hbm, 440, rfl⟩
abbrev main_call23_v5 : Ref sig .tc := ⟨.hbm, 441, rfl⟩
abbrev main_call23_c_1 : Ref sig .tc := ⟨.hbm, 442, rfl⟩
abbrev main_call23_c_2 : Ref sig .tc := ⟨.hbm, 443, rfl⟩
abbrev main_call23_v6 : Ref sig .tc := ⟨.hbm, 444, rfl⟩
abbrev main_call23_v7 : Ref sig .tc := ⟨.hbm, 445, rfl⟩
abbrev main_call23_v8 : Ref sig .tc := ⟨.hbm, 446, rfl⟩
abbrev main_call23_v9 : Ref sig .tc := ⟨.hbm, 447, rfl⟩
abbrev main_call23_v10 : Ref sig .tc := ⟨.hbm, 448, rfl⟩
abbrev main_call23_v11 : Ref sig .tc := ⟨.hbm, 449, rfl⟩
abbrev main_call23_c_3 : Ref sig .tc := ⟨.hbm, 450, rfl⟩
abbrev main_call23_v12 : Ref sig .tc := ⟨.hbm, 451, rfl⟩
abbrev main_call23_v13 : Ref sig .tc := ⟨.hbm, 452, rfl⟩
abbrev main_call23_cst : Ref sig .tc := ⟨.hbm, 453, rfl⟩
abbrev main_call23_v14 : Ref sig .tc := ⟨.hbm, 454, rfl⟩
abbrev main_v105 : Ref sig .tc := ⟨.hbm, 455, rfl⟩
abbrev main_cst_34 : Ref sig .tc := ⟨.hbm, 456, rfl⟩
abbrev main_v106 : Ref sig .tc := ⟨.hbm, 457, rfl⟩
abbrev main_v107 : Ref sig .tc := ⟨.hbm, 458, rfl⟩
abbrev main_v108 : Ref sig .tc := ⟨.hbm, 459, rfl⟩
abbrev main_v109 : Ref sig .tc := ⟨.hbm, 460, rfl⟩
abbrev main_v110 : Ref sig .tc := ⟨.hbm, 461, rfl⟩
abbrev main_v111 : Ref sig .tc := ⟨.hbm, 462, rfl⟩
abbrev main_v112 : Ref sig .tc := ⟨.hbm, 463, rfl⟩
abbrev main_v113 : Ref sig .tc := ⟨.hbm, 464, rfl⟩
abbrev main_cst_35 : Ref sig .tc := ⟨.hbm, 465, rfl⟩
abbrev main_cst_36 : Ref sig .tc := ⟨.hbm, 466, rfl⟩
abbrev main_call24_v0 : Ref sig .tc := ⟨.hbm, 467, rfl⟩
abbrev main_call24_v1 : Ref sig .tc := ⟨.hbm, 468, rfl⟩
abbrev main_call24_v2 : Ref sig .tc := ⟨.hbm, 469, rfl⟩
abbrev main_call24_v3 : Ref sig .tc := ⟨.hbm, 470, rfl⟩
abbrev main_call24_v4 : Ref sig .tc := ⟨.hbm, 471, rfl⟩
abbrev main_v114 : Ref sig .tc := ⟨.hbm, 472, rfl⟩
abbrev main_v115 : Ref sig .tc := ⟨.hbm, 473, rfl⟩
abbrev main_v116 : Ref sig .tc := ⟨.hbm, 474, rfl⟩
abbrev main_c_37 : Ref sig .tc := ⟨.hbm, 475, rfl⟩
abbrev main_c_38 : Ref sig .tc := ⟨.hbm, 476, rfl⟩
abbrev main_call25_v0 : Ref sig .tc := ⟨.hbm, 477, rfl⟩
abbrev main_call25_v1 : Ref sig .tc := ⟨.hbm, 478, rfl⟩
abbrev main_call25_v2 : Ref sig .tc := ⟨.hbm, 479, rfl⟩
abbrev main_call25_v3 : Ref sig .tc := ⟨.hbm, 480, rfl⟩
abbrev main_call25_v4 : Ref sig .tc := ⟨.hbm, 481, rfl⟩
abbrev main_v117 : Ref sig .tc := ⟨.hbm, 482, rfl⟩
abbrev main_c_39 : Ref sig .tc := ⟨.hbm, 483, rfl⟩
abbrev main_v118 : Ref sig .tc := ⟨.hbm, 484, rfl⟩
abbrev main_v119 : Ref sig .tc := ⟨.hbm, 485, rfl⟩
abbrev main_v120 : Ref sig .tc := ⟨.hbm, 486, rfl⟩
abbrev main_v121 : Ref sig .tc := ⟨.hbm, 487, rfl⟩
abbrev main_call26_c : Ref sig .tc := ⟨.hbm, 488, rfl⟩
abbrev main_call26_v0 : Ref sig .tc := ⟨.hbm, 489, rfl⟩
abbrev main_call26_v1 : Ref sig .tc := ⟨.hbm, 490, rfl⟩
abbrev main_call26_c_0 : Ref sig .tc := ⟨.hbm, 491, rfl⟩
abbrev main_call26_v2 : Ref sig .tc := ⟨.hbm, 492, rfl⟩
abbrev main_call26_v3 : Ref sig .tc := ⟨.hbm, 493, rfl⟩
abbrev main_call26_v4 : Ref sig .tc := ⟨.hbm, 494, rfl⟩
abbrev main_call26_v5 : Ref sig .tc := ⟨.hbm, 495, rfl⟩
abbrev main_call26_c_1 : Ref sig .tc := ⟨.hbm, 496, rfl⟩
abbrev main_call26_c_2 : Ref sig .tc := ⟨.hbm, 497, rfl⟩
abbrev main_call26_v6 : Ref sig .tc := ⟨.hbm, 498, rfl⟩
abbrev main_call26_v7 : Ref sig .tc := ⟨.hbm, 499, rfl⟩
abbrev main_call26_v8 : Ref sig .tc := ⟨.hbm, 500, rfl⟩
abbrev main_call26_v9 : Ref sig .tc := ⟨.hbm, 501, rfl⟩
abbrev main_call26_v10 : Ref sig .tc := ⟨.hbm, 502, rfl⟩
abbrev main_call26_v11 : Ref sig .tc := ⟨.hbm, 503, rfl⟩
abbrev main_call26_c_3 : Ref sig .tc := ⟨.hbm, 504, rfl⟩
abbrev main_call26_v12 : Ref sig .tc := ⟨.hbm, 505, rfl⟩
abbrev main_call26_v13 : Ref sig .tc := ⟨.hbm, 506, rfl⟩
abbrev main_call26_cst : Ref sig .tc := ⟨.hbm, 507, rfl⟩
abbrev main_call26_v14 : Ref sig .tc := ⟨.hbm, 508, rfl⟩
abbrev main_v122 : Ref sig .tc := ⟨.hbm, 509, rfl⟩
abbrev main_call27_c : Ref sig .tc := ⟨.hbm, 510, rfl⟩
abbrev main_call27_v0 : Ref sig .tc := ⟨.hbm, 511, rfl⟩
abbrev main_call27_v1 : Ref sig .tc := ⟨.hbm, 512, rfl⟩
abbrev main_call27_c_0 : Ref sig .tc := ⟨.hbm, 513, rfl⟩
abbrev main_call27_v2 : Ref sig .tc := ⟨.hbm, 514, rfl⟩
abbrev main_call27_v3 : Ref sig .tc := ⟨.hbm, 515, rfl⟩
abbrev main_call27_v4 : Ref sig .tc := ⟨.hbm, 516, rfl⟩
abbrev main_call27_v5 : Ref sig .tc := ⟨.hbm, 517, rfl⟩
abbrev main_call27_c_1 : Ref sig .tc := ⟨.hbm, 518, rfl⟩
abbrev main_call27_c_2 : Ref sig .tc := ⟨.hbm, 519, rfl⟩
abbrev main_call27_v6 : Ref sig .tc := ⟨.hbm, 520, rfl⟩
abbrev main_call27_v7 : Ref sig .tc := ⟨.hbm, 521, rfl⟩
abbrev main_call27_v8 : Ref sig .tc := ⟨.hbm, 522, rfl⟩
abbrev main_call27_v9 : Ref sig .tc := ⟨.hbm, 523, rfl⟩
abbrev main_call27_v10 : Ref sig .tc := ⟨.hbm, 524, rfl⟩
abbrev main_call27_v11 : Ref sig .tc := ⟨.hbm, 525, rfl⟩
abbrev main_call27_c_3 : Ref sig .tc := ⟨.hbm, 526, rfl⟩
abbrev main_call27_v12 : Ref sig .tc := ⟨.hbm, 527, rfl⟩
abbrev main_call27_v13 : Ref sig .tc := ⟨.hbm, 528, rfl⟩
abbrev main_call27_cst : Ref sig .tc := ⟨.hbm, 529, rfl⟩
abbrev main_call27_v14 : Ref sig .tc := ⟨.hbm, 530, rfl⟩
abbrev main_v123 : Ref sig .tc := ⟨.hbm, 531, rfl⟩
abbrev main_cst_40 : Ref sig .tc := ⟨.hbm, 532, rfl⟩
abbrev main_v124 : Ref sig .tc := ⟨.hbm, 533, rfl⟩
abbrev main_v125 : Ref sig .tc := ⟨.hbm, 534, rfl⟩
abbrev main_v126 : Ref sig .tc := ⟨.hbm, 535, rfl⟩
abbrev main_v127 : Ref sig .tc := ⟨.hbm, 536, rfl⟩
abbrev main_v128 : Ref sig .tc := ⟨.hbm, 537, rfl⟩
abbrev main_v129 : Ref sig .tc := ⟨.hbm, 538, rfl⟩
abbrev main_v130 : Ref sig .tc := ⟨.hbm, 539, rfl⟩
abbrev main_v131 : Ref sig .tc := ⟨.hbm, 540, rfl⟩
abbrev main_cst_41 : Ref sig .tc := ⟨.hbm, 541, rfl⟩
abbrev main_cst_42 : Ref sig .tc := ⟨.hbm, 542, rfl⟩
abbrev main_call28_v0 : Ref sig .tc := ⟨.hbm, 543, rfl⟩
abbrev main_call28_v1 : Ref sig .tc := ⟨.hbm, 544, rfl⟩
abbrev main_call28_v2 : Ref sig .tc := ⟨.hbm, 545, rfl⟩
abbrev main_call28_v3 : Ref sig .tc := ⟨.hbm, 546, rfl⟩
abbrev main_call28_v4 : Ref sig .tc := ⟨.hbm, 547, rfl⟩
abbrev main_v132 : Ref sig .tc := ⟨.hbm, 548, rfl⟩
abbrev main_v133 : Ref sig .tc := ⟨.hbm, 549, rfl⟩
abbrev main_v134 : Ref sig .tc := ⟨.hbm, 550, rfl⟩
abbrev main_c_43 : Ref sig .tc := ⟨.hbm, 551, rfl⟩
abbrev main_c_44 : Ref sig .tc := ⟨.hbm, 552, rfl⟩
abbrev main_call29_v0 : Ref sig .tc := ⟨.hbm, 553, rfl⟩
abbrev main_call29_v1 : Ref sig .tc := ⟨.hbm, 554, rfl⟩
abbrev main_call29_v2 : Ref sig .tc := ⟨.hbm, 555, rfl⟩
abbrev main_call29_v3 : Ref sig .tc := ⟨.hbm, 556, rfl⟩
abbrev main_call29_v4 : Ref sig .tc := ⟨.hbm, 557, rfl⟩
abbrev main_v135 : Ref sig .tc := ⟨.hbm, 558, rfl⟩
abbrev main_c_45 : Ref sig .tc := ⟨.hbm, 559, rfl⟩
abbrev main_v136 : Ref sig .tc := ⟨.hbm, 560, rfl⟩
abbrev main_v137 : Ref sig .tc := ⟨.hbm, 561, rfl⟩
abbrev main_v138 : Ref sig .tc := ⟨.hbm, 562, rfl⟩
abbrev main_v139 : Ref sig .tc := ⟨.hbm, 563, rfl⟩
abbrev main_call30_c : Ref sig .tc := ⟨.hbm, 564, rfl⟩
abbrev main_call30_v0 : Ref sig .tc := ⟨.hbm, 565, rfl⟩
abbrev main_call30_v1 : Ref sig .tc := ⟨.hbm, 566, rfl⟩
abbrev main_call30_c_0 : Ref sig .tc := ⟨.hbm, 567, rfl⟩
abbrev main_call30_v2 : Ref sig .tc := ⟨.hbm, 568, rfl⟩
abbrev main_call30_v3 : Ref sig .tc := ⟨.hbm, 569, rfl⟩
abbrev main_call30_v4 : Ref sig .tc := ⟨.hbm, 570, rfl⟩
abbrev main_call30_v5 : Ref sig .tc := ⟨.hbm, 571, rfl⟩
abbrev main_call30_c_1 : Ref sig .tc := ⟨.hbm, 572, rfl⟩
abbrev main_call30_c_2 : Ref sig .tc := ⟨.hbm, 573, rfl⟩
abbrev main_call30_v6 : Ref sig .tc := ⟨.hbm, 574, rfl⟩
abbrev main_call30_v7 : Ref sig .tc := ⟨.hbm, 575, rfl⟩
abbrev main_call30_v8 : Ref sig .tc := ⟨.hbm, 576, rfl⟩
abbrev main_call30_v9 : Ref sig .tc := ⟨.hbm, 577, rfl⟩
abbrev main_call30_v10 : Ref sig .tc := ⟨.hbm, 578, rfl⟩
abbrev main_call30_v11 : Ref sig .tc := ⟨.hbm, 579, rfl⟩
abbrev main_call30_c_3 : Ref sig .tc := ⟨.hbm, 580, rfl⟩
abbrev main_call30_v12 : Ref sig .tc := ⟨.hbm, 581, rfl⟩
abbrev main_call30_v13 : Ref sig .tc := ⟨.hbm, 582, rfl⟩
abbrev main_call30_cst : Ref sig .tc := ⟨.hbm, 583, rfl⟩
abbrev main_call30_v14 : Ref sig .tc := ⟨.hbm, 584, rfl⟩
abbrev main_v140 : Ref sig .tc := ⟨.hbm, 585, rfl⟩
abbrev main_call31_c : Ref sig .tc := ⟨.hbm, 586, rfl⟩
abbrev main_call31_v0 : Ref sig .tc := ⟨.hbm, 587, rfl⟩
abbrev main_call31_v1 : Ref sig .tc := ⟨.hbm, 588, rfl⟩
abbrev main_call31_c_0 : Ref sig .tc := ⟨.hbm, 589, rfl⟩
abbrev main_call31_v2 : Ref sig .tc := ⟨.hbm, 590, rfl⟩
abbrev main_call31_v3 : Ref sig .tc := ⟨.hbm, 591, rfl⟩
abbrev main_call31_v4 : Ref sig .tc := ⟨.hbm, 592, rfl⟩
abbrev main_call31_v5 : Ref sig .tc := ⟨.hbm, 593, rfl⟩
abbrev main_call31_c_1 : Ref sig .tc := ⟨.hbm, 594, rfl⟩
abbrev main_call31_c_2 : Ref sig .tc := ⟨.hbm, 595, rfl⟩
abbrev main_call31_v6 : Ref sig .tc := ⟨.hbm, 596, rfl⟩
abbrev main_call31_v7 : Ref sig .tc := ⟨.hbm, 597, rfl⟩
abbrev main_call31_v8 : Ref sig .tc := ⟨.hbm, 598, rfl⟩
abbrev main_call31_v9 : Ref sig .tc := ⟨.hbm, 599, rfl⟩
abbrev main_call31_v10 : Ref sig .tc := ⟨.hbm, 600, rfl⟩
abbrev main_call31_v11 : Ref sig .tc := ⟨.hbm, 601, rfl⟩
abbrev main_call31_c_3 : Ref sig .tc := ⟨.hbm, 602, rfl⟩
abbrev main_call31_v12 : Ref sig .tc := ⟨.hbm, 603, rfl⟩
abbrev main_call31_v13 : Ref sig .tc := ⟨.hbm, 604, rfl⟩
abbrev main_call31_cst : Ref sig .tc := ⟨.hbm, 605, rfl⟩
abbrev main_call31_v14 : Ref sig .tc := ⟨.hbm, 606, rfl⟩
abbrev main_v141 : Ref sig .tc := ⟨.hbm, 607, rfl⟩
abbrev main_cst_46 : Ref sig .tc := ⟨.hbm, 608, rfl⟩
abbrev main_v142 : Ref sig .tc := ⟨.hbm, 609, rfl⟩
abbrev main_v143 : Ref sig .tc := ⟨.hbm, 610, rfl⟩
abbrev main_v144 : Ref sig .tc := ⟨.hbm, 611, rfl⟩
abbrev main_v145 : Ref sig .tc := ⟨.hbm, 612, rfl⟩
abbrev main_v146 : Ref sig .tc := ⟨.hbm, 613, rfl⟩
abbrev main_v147 : Ref sig .tc := ⟨.hbm, 614, rfl⟩
abbrev main_v148 : Ref sig .tc := ⟨.hbm, 615, rfl⟩
abbrev main_cst_47 : Ref sig .tc := ⟨.hbm, 616, rfl⟩
abbrev main_cst_48 : Ref sig .tc := ⟨.hbm, 617, rfl⟩
abbrev main_call32_v0 : Ref sig .tc := ⟨.hbm, 618, rfl⟩
abbrev main_call32_v1 : Ref sig .tc := ⟨.hbm, 619, rfl⟩
abbrev main_call32_v2 : Ref sig .tc := ⟨.hbm, 620, rfl⟩
abbrev main_call32_v3 : Ref sig .tc := ⟨.hbm, 621, rfl⟩
abbrev main_call32_v4 : Ref sig .tc := ⟨.hbm, 622, rfl⟩
abbrev main_v149 : Ref sig .tc := ⟨.hbm, 623, rfl⟩
abbrev main_v150 : Ref sig .tc := ⟨.hbm, 624, rfl⟩
abbrev main_v151 : Ref sig .tc := ⟨.hbm, 625, rfl⟩
abbrev main_c_49 : Ref sig .tc := ⟨.hbm, 626, rfl⟩
abbrev main_c_50 : Ref sig .tc := ⟨.hbm, 627, rfl⟩
abbrev main_call33_v0 : Ref sig .tc := ⟨.hbm, 628, rfl⟩
abbrev main_call33_v1 : Ref sig .tc := ⟨.hbm, 629, rfl⟩
abbrev main_call33_v2 : Ref sig .tc := ⟨.hbm, 630, rfl⟩
abbrev main_call33_v3 : Ref sig .tc := ⟨.hbm, 631, rfl⟩
abbrev main_call33_v4 : Ref sig .tc := ⟨.hbm, 632, rfl⟩
abbrev main_v152 : Ref sig .tc := ⟨.hbm, 633, rfl⟩
abbrev main_v153 : Ref sig .tc := ⟨.hbm, 634, rfl⟩
abbrev main_v154 : Ref sig .tc := ⟨.hbm, 635, rfl⟩
abbrev main_v155 : Ref sig .tc := ⟨.hbm, 636, rfl⟩
abbrev main_c_51 : Ref sig .tc := ⟨.hbm, 637, rfl⟩
abbrev main_v156 : Ref sig .tc := ⟨.hbm, 638, rfl⟩
abbrev main_v157 : Ref sig .tc := ⟨.hbm, 639, rfl⟩
abbrev main_c_52 : Ref sig .tc := ⟨.hbm, 640, rfl⟩
abbrev main_c_53 : Ref sig .tc := ⟨.hbm, 641, rfl⟩
abbrev main_call34_v0 : Ref sig .tc := ⟨.hbm, 642, rfl⟩
abbrev main_call34_v1 : Ref sig .tc := ⟨.hbm, 643, rfl⟩
abbrev main_call34_v2 : Ref sig .tc := ⟨.hbm, 644, rfl⟩
abbrev main_call34_v3 : Ref sig .tc := ⟨.hbm, 645, rfl⟩
abbrev main_call34_v4 : Ref sig .tc := ⟨.hbm, 646, rfl⟩
abbrev main_v158 : Ref sig .tc := ⟨.hbm, 647, rfl⟩
abbrev main_c_54 : Ref sig .tc := ⟨.hbm, 648, rfl⟩
abbrev main_v159 : Ref sig .tc := ⟨.hbm, 649, rfl⟩
abbrev main_v160 : Ref sig .tc := ⟨.hbm, 650, rfl⟩
abbrev main_c_55 : Ref sig .tc := ⟨.hbm, 651, rfl⟩
abbrev main_v161 : Ref sig .tc := ⟨.hbm, 652, rfl⟩
abbrev main_v162 : Ref sig .tc := ⟨.hbm, 653, rfl⟩
abbrev main_c_56 : Ref sig .tc := ⟨.hbm, 654, rfl⟩
abbrev main_c_57 : Ref sig .tc := ⟨.hbm, 655, rfl⟩
abbrev main_call35_v0 : Ref sig .tc := ⟨.hbm, 656, rfl⟩
abbrev main_call35_v1 : Ref sig .tc := ⟨.hbm, 657, rfl⟩
abbrev main_call35_v2 : Ref sig .tc := ⟨.hbm, 658, rfl⟩
abbrev main_call35_v3 : Ref sig .tc := ⟨.hbm, 659, rfl⟩
abbrev main_call35_v4 : Ref sig .tc := ⟨.hbm, 660, rfl⟩
abbrev main_v163 : Ref sig .tc := ⟨.hbm, 661, rfl⟩
abbrev main_v164 : Ref sig .tc := ⟨.hbm, 662, rfl⟩
abbrev main_v165 : Ref sig .tc := ⟨.hbm, 663, rfl⟩
abbrev main_call36_c : Ref sig .tc := ⟨.hbm, 664, rfl⟩
abbrev main_call36_v0 : Ref sig .tc := ⟨.hbm, 665, rfl⟩
abbrev main_call36_v1 : Ref sig .tc := ⟨.hbm, 666, rfl⟩
abbrev main_call36_c_0 : Ref sig .tc := ⟨.hbm, 667, rfl⟩
abbrev main_call36_v2 : Ref sig .tc := ⟨.hbm, 668, rfl⟩
abbrev main_call36_v3 : Ref sig .tc := ⟨.hbm, 669, rfl⟩
abbrev main_call36_v4 : Ref sig .tc := ⟨.hbm, 670, rfl⟩
abbrev main_call36_v5 : Ref sig .tc := ⟨.hbm, 671, rfl⟩
abbrev main_call36_c_1 : Ref sig .tc := ⟨.hbm, 672, rfl⟩
abbrev main_call36_c_2 : Ref sig .tc := ⟨.hbm, 673, rfl⟩
abbrev main_call36_v6 : Ref sig .tc := ⟨.hbm, 674, rfl⟩
abbrev main_call36_v7 : Ref sig .tc := ⟨.hbm, 675, rfl⟩
abbrev main_call36_v8 : Ref sig .tc := ⟨.hbm, 676, rfl⟩
abbrev main_call36_v9 : Ref sig .tc := ⟨.hbm, 677, rfl⟩
abbrev main_call36_v10 : Ref sig .tc := ⟨.hbm, 678, rfl⟩
abbrev main_call36_v11 : Ref sig .tc := ⟨.hbm, 679, rfl⟩
abbrev main_call36_c_3 : Ref sig .tc := ⟨.hbm, 680, rfl⟩
abbrev main_call36_v12 : Ref sig .tc := ⟨.hbm, 681, rfl⟩
abbrev main_call36_v13 : Ref sig .tc := ⟨.hbm, 682, rfl⟩
abbrev main_call36_cst : Ref sig .tc := ⟨.hbm, 683, rfl⟩
abbrev main_call36_v14 : Ref sig .tc := ⟨.hbm, 684, rfl⟩
abbrev main_v166 : Ref sig .tc := ⟨.hbm, 685, rfl⟩
abbrev main_v167 : Ref sig .tc := ⟨.hbm, 686, rfl⟩
abbrev main_v168 : Ref sig .tc := ⟨.hbm, 687, rfl⟩
abbrev main_call37_c : Ref sig .tc := ⟨.hbm, 688, rfl⟩
abbrev main_call37_v0 : Ref sig .tc := ⟨.hbm, 689, rfl⟩
abbrev main_call37_v1 : Ref sig .tc := ⟨.hbm, 690, rfl⟩
abbrev main_call37_c_0 : Ref sig .tc := ⟨.hbm, 691, rfl⟩
abbrev main_call37_v2 : Ref sig .tc := ⟨.hbm, 692, rfl⟩
abbrev main_call37_v3 : Ref sig .tc := ⟨.hbm, 693, rfl⟩
abbrev main_call37_v4 : Ref sig .tc := ⟨.hbm, 694, rfl⟩
abbrev main_call37_v5 : Ref sig .tc := ⟨.hbm, 695, rfl⟩
abbrev main_call37_c_1 : Ref sig .tc := ⟨.hbm, 696, rfl⟩
abbrev main_call37_c_2 : Ref sig .tc := ⟨.hbm, 697, rfl⟩
abbrev main_call37_v6 : Ref sig .tc := ⟨.hbm, 698, rfl⟩
abbrev main_call37_v7 : Ref sig .tc := ⟨.hbm, 699, rfl⟩
abbrev main_call37_v8 : Ref sig .tc := ⟨.hbm, 700, rfl⟩
abbrev main_call37_v9 : Ref sig .tc := ⟨.hbm, 701, rfl⟩
abbrev main_call37_v10 : Ref sig .tc := ⟨.hbm, 702, rfl⟩
abbrev main_call37_v11 : Ref sig .tc := ⟨.hbm, 703, rfl⟩
abbrev main_call37_c_3 : Ref sig .tc := ⟨.hbm, 704, rfl⟩
abbrev main_call37_v12 : Ref sig .tc := ⟨.hbm, 705, rfl⟩
abbrev main_call37_v13 : Ref sig .tc := ⟨.hbm, 706, rfl⟩
abbrev main_call37_cst : Ref sig .tc := ⟨.hbm, 707, rfl⟩
abbrev main_call37_v14 : Ref sig .tc := ⟨.hbm, 708, rfl⟩
abbrev main_v169 : Ref sig .tc := ⟨.hbm, 709, rfl⟩
abbrev main_v170 : Ref sig .tc := ⟨.hbm, 710, rfl⟩
abbrev main_v171 : Ref sig .tc := ⟨.hbm, 711, rfl⟩
abbrev main_call38_c : Ref sig .tc := ⟨.hbm, 712, rfl⟩
abbrev main_call38_v0 : Ref sig .tc := ⟨.hbm, 713, rfl⟩
abbrev main_call38_v1 : Ref sig .tc := ⟨.hbm, 714, rfl⟩
abbrev main_call38_c_0 : Ref sig .tc := ⟨.hbm, 715, rfl⟩
abbrev main_call38_v2 : Ref sig .tc := ⟨.hbm, 716, rfl⟩
abbrev main_call38_v3 : Ref sig .tc := ⟨.hbm, 717, rfl⟩
abbrev main_call38_v4 : Ref sig .tc := ⟨.hbm, 718, rfl⟩
abbrev main_call38_v5 : Ref sig .tc := ⟨.hbm, 719, rfl⟩
abbrev main_call38_c_1 : Ref sig .tc := ⟨.hbm, 720, rfl⟩
abbrev main_call38_c_2 : Ref sig .tc := ⟨.hbm, 721, rfl⟩
abbrev main_call38_v6 : Ref sig .tc := ⟨.hbm, 722, rfl⟩
abbrev main_call38_v7 : Ref sig .tc := ⟨.hbm, 723, rfl⟩
abbrev main_call38_v8 : Ref sig .tc := ⟨.hbm, 724, rfl⟩
abbrev main_call38_v9 : Ref sig .tc := ⟨.hbm, 725, rfl⟩
abbrev main_call38_v10 : Ref sig .tc := ⟨.hbm, 726, rfl⟩
abbrev main_call38_v11 : Ref sig .tc := ⟨.hbm, 727, rfl⟩
abbrev main_call38_c_3 : Ref sig .tc := ⟨.hbm, 728, rfl⟩
abbrev main_call38_v12 : Ref sig .tc := ⟨.hbm, 729, rfl⟩
abbrev main_call38_v13 : Ref sig .tc := ⟨.hbm, 730, rfl⟩
abbrev main_call38_cst : Ref sig .tc := ⟨.hbm, 731, rfl⟩
abbrev main_call38_v14 : Ref sig .tc := ⟨.hbm, 732, rfl⟩
abbrev main_v172 : Ref sig .tc := ⟨.hbm, 733, rfl⟩
abbrev main_v173 : Ref sig .tc := ⟨.hbm, 734, rfl⟩
abbrev main_v174 : Ref sig .tc := ⟨.hbm, 735, rfl⟩
abbrev main_call39_c : Ref sig .tc := ⟨.hbm, 736, rfl⟩
abbrev main_call39_v0 : Ref sig .tc := ⟨.hbm, 737, rfl⟩
abbrev main_call39_v1 : Ref sig .tc := ⟨.hbm, 738, rfl⟩
abbrev main_call39_c_0 : Ref sig .tc := ⟨.hbm, 739, rfl⟩
abbrev main_call39_v2 : Ref sig .tc := ⟨.hbm, 740, rfl⟩
abbrev main_call39_v3 : Ref sig .tc := ⟨.hbm, 741, rfl⟩
abbrev main_call39_v4 : Ref sig .tc := ⟨.hbm, 742, rfl⟩
abbrev main_call39_v5 : Ref sig .tc := ⟨.hbm, 743, rfl⟩
abbrev main_call39_c_1 : Ref sig .tc := ⟨.hbm, 744, rfl⟩
abbrev main_call39_c_2 : Ref sig .tc := ⟨.hbm, 745, rfl⟩
abbrev main_call39_v6 : Ref sig .tc := ⟨.hbm, 746, rfl⟩
abbrev main_call39_v7 : Ref sig .tc := ⟨.hbm, 747, rfl⟩
abbrev main_call39_v8 : Ref sig .tc := ⟨.hbm, 748, rfl⟩
abbrev main_call39_v9 : Ref sig .tc := ⟨.hbm, 749, rfl⟩
abbrev main_call39_v10 : Ref sig .tc := ⟨.hbm, 750, rfl⟩
abbrev main_call39_v11 : Ref sig .tc := ⟨.hbm, 751, rfl⟩
abbrev main_call39_c_3 : Ref sig .tc := ⟨.hbm, 752, rfl⟩
abbrev main_call39_v12 : Ref sig .tc := ⟨.hbm, 753, rfl⟩
abbrev main_call39_v13 : Ref sig .tc := ⟨.hbm, 754, rfl⟩
abbrev main_call39_cst : Ref sig .tc := ⟨.hbm, 755, rfl⟩
abbrev main_call39_v14 : Ref sig .tc := ⟨.hbm, 756, rfl⟩
abbrev main_v175 : Ref sig .tc := ⟨.hbm, 757, rfl⟩
abbrev main_v176 : Ref sig .tc := ⟨.hbm, 758, rfl⟩
abbrev main_v177 : Ref sig .tc := ⟨.hbm, 759, rfl⟩
abbrev main_cst_58 : Ref sig .tc := ⟨.hbm, 760, rfl⟩
abbrev main_v178 : Ref sig .tc := ⟨.hbm, 761, rfl⟩
abbrev main_v179 : Ref sig .tc := ⟨.hbm, 762, rfl⟩
abbrev main_v180 : Ref sig .tc := ⟨.hbm, 763, rfl⟩
abbrev main_v181 : Ref sig .tc := ⟨.hbm, 764, rfl⟩
abbrev main_v182 : Ref sig .tc := ⟨.hbm, 765, rfl⟩
abbrev main_v183 : Ref sig .tc := ⟨.hbm, 766, rfl⟩
abbrev main_v184 : Ref sig .tc := ⟨.hbm, 767, rfl⟩
abbrev main_cst_59 : Ref sig .tc := ⟨.hbm, 768, rfl⟩
abbrev main_v185 : Ref sig .tc := ⟨.hbm, 769, rfl⟩
abbrev main_v186 : Ref sig .tc := ⟨.hbm, 770, rfl⟩
abbrev main_cst_60 : Ref sig .tc := ⟨.hbm, 771, rfl⟩
abbrev main_v187 : Ref sig .tc := ⟨.hbm, 772, rfl⟩
abbrev main_v188 : Ref sig .tc := ⟨.hbm, 773, rfl⟩
abbrev main_v189 : Ref sig .tc := ⟨.hbm, 774, rfl⟩
abbrev main_cst_61 : Ref sig .tc := ⟨.hbm, 775, rfl⟩
abbrev main_v190 : Ref sig .tc := ⟨.hbm, 776, rfl⟩
abbrev main_v191 : Ref sig .tc := ⟨.hbm, 777, rfl⟩
abbrev main_v192 : Ref sig .tc := ⟨.hbm, 778, rfl⟩
abbrev main_v193 : Ref sig .tc := ⟨.hbm, 779, rfl⟩
abbrev main_v194 : Ref sig .tc := ⟨.hbm, 780, rfl⟩
abbrev main_v195 : Ref sig .tc := ⟨.hbm, 781, rfl⟩
abbrev main_v196 : Ref sig .tc := ⟨.hbm, 782, rfl⟩
abbrev main_v197 : Ref sig .tc := ⟨.hbm, 783, rfl⟩
abbrev main_cst_62 : Ref sig .tc := ⟨.hbm, 784, rfl⟩
abbrev main_v198 : Ref sig .tc := ⟨.hbm, 785, rfl⟩
abbrev main_v199 : Ref sig .tc := ⟨.hbm, 786, rfl⟩
abbrev main_v200 : Ref sig .tc := ⟨.hbm, 787, rfl⟩
abbrev main_cst_63 : Ref sig .tc := ⟨.hbm, 788, rfl⟩
abbrev main_v201 : Ref sig .tc := ⟨.hbm, 789, rfl⟩
abbrev main_v202 : Ref sig .tc := ⟨.hbm, 790, rfl⟩
abbrev main_v203 : Ref sig .tc := ⟨.hbm, 791, rfl⟩
abbrev main_v204 : Ref sig .tc := ⟨.hbm, 792, rfl⟩
abbrev main_v205 : Ref sig .tc := ⟨.hbm, 793, rfl⟩
abbrev main_v206 : Ref sig .tc := ⟨.hbm, 794, rfl⟩
abbrev main_v207 : Ref sig .tc := ⟨.hbm, 795, rfl⟩
abbrev main_cst_64 : Ref sig .tc := ⟨.hbm, 796, rfl⟩
abbrev main_v208 : Ref sig .tc := ⟨.hbm, 797, rfl⟩
abbrev main_v209 : Ref sig .tc := ⟨.hbm, 798, rfl⟩
abbrev main_v210 : Ref sig .tc := ⟨.hbm, 799, rfl⟩

abbrev nD : Nat := 1
abbrev τ : Topo := Topo.v7x

variable {F : FTy → Type} [FloatOps F]
-- ==== Proof.Math.lean ====
/-
  The real mathematics both programs share: eight Euler steps of a position along a row of increments that is read by
  linear interpolation, then a Catmull–Rom cubic through four neighbouring samples. Positions and increments are real
  arrays over (batch, row); nothing here mentions a program.
-/
module

public import proofs.«01_k».proof.Defs
public import Mathlib.Tactic.Linarith
public import Mathlib.Tactic.Ring
public import Mathlib.Tactic.NormNum
public import Mathlib.Tactic.Positivity

@[expose] public section

noncomputable section

namespace Cert.Warp

/-- A real array over the 16 batches and the 2048 rows. -/
abbrev Grid := Fin 16 → Fin 2048 → ℝ

/-- The lower of the two rows the interpolation at row `k` reads: `k`, except that the last row reads from 2046. -/
def lo (k : Fin 2048) : Fin 2048 := ⟨min k.val 2046, by omega⟩
/-- The upper of the two rows, the one after `lo k`. -/
def hi (k : Fin 2048) : Fin 2048 := ⟨min k.val 2046 + 1, by omega⟩
/-- The row before `lo k`, kept inside the array. -/
def before (k : Fin 2048) : Fin 2048 := ⟨min k.val 2046 - 1, by omega⟩
/-- The row after `hi k`, kept inside the array. -/
def beyond (k : Fin 2048) : Fin 2048 := ⟨min (min k.val 2046 + 2) 2047, by omega⟩

/-- A position held inside `[0, 2047]`. -/
def clamp (r : ℝ) : ℝ := min 2047 (max 0 r)
/-- How far the clamped position lies above its lower row. -/
def wt (r : Grid) (b : Fin 16) (k : Fin 2048) : ℝ := clamp (r b k) - ((lo k).val : ℝ)

/-- One Euler step: the position moves by the increment interpolated between rows `lo k` and `hi k`. -/
def rstep (e r : Grid) : Grid := fun b k =>
  r b k + (e b (lo k) * (1 - wt r b k) + e b (hi k) * wt r b k)

/-- The positions before the first step: each row at its own number. -/
def start : Grid := fun _ k => (k.val : ℝ)

/-- The positions after `n` steps with the increments `e 0, e 1, …`. -/
def walk (e : Nat → Grid) : Nat → Grid
  | 0 => start
  | n + 1 => rstep (e n) (walk e n)

/-- Every position is in the unit interval that starts at its own row. -/
def Near (r : Grid) : Prop := ∀ b k, (k.val : ℝ) ≤ r b k ∧ r b k < k.val + 1
/-- Every position is at most `c` above its own row. -/
def Upto (c : ℝ) (r : Grid) : Prop := ∀ b k, (k.val : ℝ) ≤ r b k ∧ r b k ≤ k.val + c

/-- The clamped position of row `k`, and hence its weight, when the position is in `[k, k + 1)`. -/
theorem clamp_of_near {r : ℝ} {k : Fin 2048} (h0 : (k.val : ℝ) ≤ r) (h1 : r < k.val + 1) :
    clamp r = if k.val < 2047 then r else 2047 := by
  have hk : (0 : ℝ) ≤ k.val := Nat.cast_nonneg _
  unfold clamp
  rw [max_eq_right (by linarith)]
  split
  · rename_i h
    have h' : (k.val : ℝ) + 1 ≤ 2047 := by exact_mod_cast h
    exact min_eq_right (by linarith)
  · rename_i h
    have h' : (2047 : ℝ) ≤ k.val := by exact_mod_cast (by omega : 2047 ≤ k.val)
    exact min_eq_left (by linarith)

/-- The weight of a position near its row is between 0 and 1. -/
theorem wt_mem {r : Grid} (h : Near r) (b : Fin 16) (k : Fin 2048) : 0 ≤ wt r b k ∧ wt r b k ≤ 1 := by
  obtain ⟨h0, h1⟩ := h b k
  unfold wt
  rw [clamp_of_near h0 h1]
  split
  · rename_i h
    have e : ((lo k).val : ℝ) = k.val := by
      exact_mod_cast (by show min k.val 2046 = k.val; omega : (lo k).val = k.val)
    rw [e]; constructor <;> linarith
  · rename_i h
    have e : ((lo k).val : ℝ) = 2046 := by
      exact_mod_cast (by show min k.val 2046 = 2046; omega : (lo k).val = 2046)
    rw [e]; constructor <;> norm_num

/-- The last row's weight is exactly 1. -/
theorem wt_last {r : Grid} (h : Near r) (b : Fin 16) (k : Fin 2048) (hk : k.val = 2047) : wt r b k = 1 := by
  obtain ⟨h0, h1⟩ := h b k
  unfold wt
  rw [clamp_of_near h0 h1, if_neg (by omega)]
  have e : ((lo k).val : ℝ) = 2046 := by
    exact_mod_cast (by show min k.val 2046 = 2046; omega : (lo k).val = 2046)
  rw [e]; norm_num

/-- A step with increments in `[0, 1/8)` keeps every position at or above its row and moves it by less than 1/8. -/
theorem rstep_bound {e r : Grid} (he : ∀ b k, 0 ≤ e b k ∧ e b k < 1 / 8) (h : Near r) (b : Fin 16) (k : Fin 2048) :
    r b k ≤ rstep e r b k ∧ rstep e r b k < r b k + 1 / 8 := by
  obtain ⟨w0, w1⟩ := wt_mem h b k
  obtain ⟨a0, a1⟩ := he b (lo k)
  obtain ⟨c0, c1⟩ := he b (hi k)
  unfold rstep
  have p1 := mul_nonneg a0 (sub_nonneg.mpr w1)
  have p2 := mul_nonneg c0 w0
  refine ⟨by linarith, ?_⟩
  rcases lt_or_ge (wt r b k) 1 with hw | hw
  · have q1 : e b (lo k) * (1 - wt r b k) < 1 / 8 * (1 - wt r b k) :=
      mul_lt_mul_of_pos_right a1 (by linarith)
    have q2 : e b (hi k) * wt r b k ≤ 1 / 8 * wt r b k := mul_le_mul_of_nonneg_right c1.le w0
    linarith
  · have hw' : wt r b k = 1 := le_antisymm w1 hw
    rw [hw']; linarith

/-- After `n ≤ 8` steps every position is still near its row. -/
theorem walk_near {e : Nat → Grid} (he : ∀ n b k, 0 ≤ e n b k ∧ e n b k < 1 / 8) :
    ∀ n, n ≤ 8 → Near (walk e n) ∧ Upto ((n : ℝ) / 8) (walk e n)
  | 0, _ => ⟨fun b k => ⟨le_refl _, by show (k.val : ℝ) < k.val + 1; linarith⟩,
      fun b k => ⟨le_refl _, by show (k.val : ℝ) ≤ k.val + ((0 : Nat) : ℝ) / 8; simp⟩⟩
  | n + 1, hn => by
    obtain ⟨h1, h2⟩ := walk_near he n (by omega)
    have hn' : ((n + 1 : Nat) : ℝ) ≤ 8 := by exact_mod_cast hn
    push_cast at hn'
    refine ⟨fun b k => ?_, fun b k => ?_⟩
    · obtain ⟨s0, s1⟩ := rstep_bound (he n) h1 b k
      obtain ⟨u0, u1⟩ := h2 b k
      exact ⟨le_trans u0 s0, by show rstep (e n) (walk e n) b k < _; linarith⟩
    · obtain ⟨s0, s1⟩ := rstep_bound (he n) h1 b k
      obtain ⟨u0, u1⟩ := h2 b k
      exact ⟨le_trans u0 s0, by
        show rstep (e n) (walk e n) b k ≤ k.val + ((n + 1 : Nat) : ℝ) / 8
        push_cast; linarith⟩

/-- The Catmull–Rom cubic through four samples at parameter `t`. -/
def cubic (p0 p1 p2 p3 t : ℝ) : ℝ :=
  0.5 * (2 * p1 + (-p0 + p2) * t + (2 * p0 - 5 * p1 + 4 * p2 - p3) * (t * t)
    + (-p0 + 3 * p1 - 3 * p2 + p3) * (t * t * t))

/-- The weight of the sample before the interval in the cubic. -/
def cf0 (t : ℝ) : ℝ := 0.5 * (0 - t + 2 * (t * t) - t * t * t)
/-- The weight of the interval's first sample in the cubic. -/
def cf1 (t : ℝ) : ℝ := 0.5 * (2 - 5 * (t * t) + 3 * (t * t * t))
/-- The weight of the interval's second sample in the cubic. -/
def cf2 (t : ℝ) : ℝ := 0.5 * (t + 4 * (t * t) - 3 * (t * t * t))
/-- The weight of the sample after the interval in the cubic. -/
def cf3 (t : ℝ) : ℝ := 0.5 * (t * t * t - t * t)

/-- The cubic as a weighted sum of its four samples. -/
theorem cubic_eq (p0 p1 p2 p3 t : ℝ) :
    cubic p0 p1 p2 p3 t = cf0 t * p0 + cf1 t * p1 + cf2 t * p2 + cf3 t * p3 := by
  unfold cubic cf0 cf1 cf2 cf3; ring

/-- With the first two samples equal their weights merge. -/
theorem cubic_first (p1 p2 p3 t : ℝ) :
    cubic p1 p1 p2 p3 t = (cf1 t + cf0 t) * p1 + cf2 t * p2 + cf3 t * p3 := by
  rw [cubic_eq]; ring

/-- With the last two samples equal their weights merge. -/
theorem cubic_last (p0 p1 p2 t : ℝ) :
    cubic p0 p1 p2 p2 t = cf0 t * p0 + cf1 t * p1 + (cf2 t + cf3 t) * p2 := by
  rw [cubic_eq]; ring

/-- At parameter 1 the cubic is its third sample. -/
theorem cubic_one (p0 p1 p2 p3 : ℝ) : cubic p0 p1 p2 p3 1 = p2 := by
  unfold cubic; ring

/-- The warped array: at row `k` the cubic through the rows around `lo k`, at the row's weight. -/
def warped (X : Fin 16 → Fin 2048 → Fin 512 → ℝ) (r : Grid) (b : Fin 16) (k : Fin 2048) (d : Fin 512) : ℝ :=
  cubic (X b (before k) d) (X b (lo k) d) (X b (hi k) d) (X b (beyond k) d) (wt r b k)

end Cert.Warp
-- ==== Proof.Lit.lean ====
/-
  The float constants the two programs name, as real numbers, and a real array as a vector of ideal floats.
-/
module

public import proofs.«01_k».proof.Proof.Math
public import Idealize.ShloMosaic.Lib.ValueIdx

@[expose] public section

noncomputable section

namespace Cert.Warp

open Idealize.ShloMosaic Idealize.ShloMosaic.ValueIdx

theorem lit_zero : Ideal.ofBits .f32 0x00000000#32 = ((0 : ℝ) : EReal) := by
  simp [Ideal.ofBits, Ideal.ieee, -EReal.coe_mul]
theorem lit_half : Ideal.ofBits .f32 0x3F000000#32 = ((0.5 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_inv32 : Ideal.ofBits .f32 0x3D000000#32 = ((1 / 32 : ℝ) : EReal) := by
  simp [Ideal.ofBits, Ideal.ieee, -EReal.coe_mul]; norm_num
theorem lit_2046 : Ideal.ofBits .f32 0x44FFC000#32 = ((2046 : ℝ) : EReal) := by
  simp [Ideal.ofBits, Ideal.ieee, -EReal.coe_mul]; norm_num
theorem lit_2047 : Ideal.ofBits .f32 0x44FFE000#32 = ((2047 : ℝ) : EReal) := by
  simp [Ideal.ofBits, Ideal.ieee, -EReal.coe_mul]; norm_num
theorem lit_top : Ideal.ofBits .f32 0x7F800000#32 = ⊤ := by
  simp [Ideal.ofBits, Ideal.ieee]
theorem lit_bot : Ideal.ofBits .f32 0xFF800000#32 = ⊥ := by
  simp [Ideal.ofBits, Ideal.ieee]

/-- The greater of two reals among the extended reals. -/
theorem coe_max (a b : ℝ) : max (a : EReal) (b : EReal) = ((max a b : ℝ) : EReal) :=
  (EReal.coe_strictMono.monotone.map_max).symm
/-- The lesser of two reals among the extended reals. -/
theorem coe_min (a b : ℝ) : min (a : EReal) (b : EReal) = ((min a b : ℝ) : EReal) :=
  (EReal.coe_strictMono.monotone.map_min).symm

/-- A real array as a vector of ideal floats. -/
def vec (r : Grid) : FVec Ideal (⟨2, ![16, 2048]⟩ : Shape) .f32 := fun j => ((r (j 0) (j 1) : ℝ) : EReal)

theorem vec_apply (r : Grid) (b : Fin 16) (k : Fin 2048) : vec r (ix2 b k) = ((r b k : ℝ) : EReal) := rfl

/-- A vector is a real array's when it is so at every index. -/
theorem eq_vec (v : FVec Ideal (⟨2, ![16, 2048]⟩ : Shape) .f32) (r : Grid)
    (h : ∀ b k, v (ix2 b k) = ((r b k : ℝ) : EReal)) : v = vec r :=
  funext fun j => (congrArg v (eq_ix2 j)).trans (h (j 0) (j 1))

/-- The increments of step `n`: column `n` of the displacements over 32. -/
def incs (g : Fin 16 → Fin 2048 → Fin 8 → ℝ) (n : Nat) : Grid := fun b k => g b k (Fin.ofNat 8 n) / 32

/-- The displacements as a vector of ideal floats. -/
def dsVec (g : Fin 16 → Fin 2048 → Fin 8 → ℝ) : FVec Ideal (⟨3, ![16, 2048, 8]⟩ : Shape) .f32 :=
  fun j => ((g (j 0) (j 1) (j 2) : ℝ) : EReal)
/-- The samples as a vector of ideal floats. -/
def xsVec (X : Fin 16 → Fin 2048 → Fin 512 → ℝ) : FVec Ideal (⟨3, ![16, 2048, 512]⟩ : Shape) .f32 :=
  fun j => ((X (j 0) (j 1) (j 2) : ℝ) : EReal)

end Cert.Warp
-- ==== Proof.Coef.lean ====
/-
  The first kernel on real displacements. Its body reads the eight increment slabs, takes eight Euler steps whose lower row
  is fixed to the row itself, and writes the final positions and the four weights of the cubic. The step here is the real
  step of `Math` with no condition at all; the weights are named at every row below the last.
-/
module

public import proofs.«01_k».proof.Proof.Gen.KernelIdeal.Frame
public import proofs.«01_k».proof.Proof.Lit
public import Idealize.ShloMosaic.Lib.StableHlo.Predicate
public import Idealize.ShloMosaic.Lib.Pipeline.Value
public import Idealize.ShloMosaic.Lib.Pipeline.ValueKit.Tiles

@[expose] public section

set_option maxRecDepth 16384

noncomputable section

namespace Cert.Warp.Ker

open Cert.KernelIdeal Cert.KernelIdeal.Gen Idealize.ShloMosaic Idealize.ShloMosaic.ValueIdx

/-- A float constant at every (batch, row). -/
def fill (w : BitVec 32) : FVec Ideal S16x2048 .f32 := broadcast S16x2048 (Scalar.ofBits (F := Ideal) .f32 w)
theorem fill_apply (w : BitVec 32) (j : S16x2048.Idx) : fill w j = Ideal.ofBits .f32 w := rfl

/-- One slab of displacements over 32. -/
def scaled (v : Vec Ideal S1x16x2048 .f32) : FVec Ideal S16x2048 .f32 :=
  mulf (shapeCast S16x2048 v shapeCasts_S1x16x2048_S16x2048) (fill 0x3D000000#32)
/-- The increments at the lower rows: each row's own, the last row's from 2046. -/
def lower (d : FVec Ideal S16x2048 .f32) : FVec Ideal S16x2048 .f32 :=
  concatenate S16x2048 1 [⟨S16x2047, extractStridedSlice S16x2047 ![0, 0] d slices_S16x2048_o0_0_S16x2047⟩,
    ⟨S16x1, extractStridedSlice S16x1 ![0, 2046] d slices_S16x2048_o0_2046_S16x1⟩]
    concatenates_S16x2047_S16x1_S16x2048_d1
/-- The increments at the upper rows: the row after, the last row's from 2047. -/
def upper (d : FVec Ideal S16x2048 .f32) : FVec Ideal S16x2048 .f32 :=
  concatenate S16x2048 1 [⟨S16x2047, extractStridedSlice S16x2047 ![0, 1] d slices_S16x2048_o0_1_S16x2047⟩,
    ⟨S16x1, extractStridedSlice S16x1 ![0, 2047] d slices_S16x2048_o0_2047_S16x1⟩]
    concatenates_S16x2047_S16x1_S16x2048_d1
/-- How far the clipped position is above its lower row. -/
def weight (f : FVec Ideal S16x2048 .f32) : FVec Ideal S16x2048 .f32 :=
  subf (minimumf (fill 0x44FFE000#32) (maximumf (fill 0x00000000#32) f)) (k0_pay5 (F := Ideal))
/-- One Euler step. -/
def euler (v : Vec Ideal S1x16x2048 .f32) (f : FVec Ideal S16x2048 .f32) : FVec Ideal S16x2048 .f32 :=
  addf f (addf (mulf (lower (scaled v)) (subf (fill 0x3F800000#32) (weight f))) (mulf (upper (scaled v)) (weight f)))

/-- The starting positions are the row numbers. -/
theorem start_eq : k0_pay4 (F := Ideal) = vec start := by
  refine eq_vec _ _ fun b k => ?_
  show (((iota .tc S16x2048 32 [1] iota_S16x2048_d1_w32 (ix2 b k)).toInt : ℝ) : EReal) = ((k.val : ℝ) : EReal)
  rw [iota_single_apply]
  show (((BitVec.ofNat 32 k.val).toInt : ℝ) : EReal) = _
  rw [StableHlo.Predicate.toInt_ofNat_small _ (by omega)]
  norm_cast

/-- The lower row number, as a float. -/
theorem floor_apply (b : Fin 16) (k : Fin 2048) :
    k0_pay5 (F := Ideal) (ix2 b k) = (((lo k).val : ℝ) : EReal) := by
  show min (k0_pay4 (F := Ideal) (ix2 b k)) (Ideal.ofBits .f32 0x44FFC000#32) = _
  rw [start_eq, vec_apply, lit_2046, coe_min]
  congr 1
  show min ((k.val : ℕ) : ℝ) 2046 = ((min k.val 2046 : ℕ) : ℝ)
  push_cast
  rfl

theorem weight_apply (r : Grid) (b : Fin 16) (k : Fin 2048) :
    weight (vec r) (ix2 b k) = ((wt r b k : ℝ) : EReal) := by
  unfold weight
  rw [subf_apply, minimumf_apply, maximumf_apply, fill_apply, fill_apply, lit_2047, lit_zero, vec_apply, floor_apply,
    coe_max, coe_min, ← EReal.coe_sub]
  rfl

/-- A slice of 2047 rows followed by one row, read at a row. -/
theorem joined_apply (x : FVec Ideal S16x2047 .f32) (y : FVec Ideal S16x1 .f32) (b : Fin 16) (k : Fin 2048) :
    concatenate S16x2048 1 [⟨S16x2047, x⟩, ⟨S16x1, y⟩] concatenates_S16x2047_S16x1_S16x2048_d1 (ix2 b k)
      = if h : k.val < 2047 then x (ix2 b ⟨k.val, h⟩) else y (ix2 b 0) := by
  split
  · rename_i h
    exact concatenate_pair_apply_left (t := S16x2048) (s₁ := S16x2047) (s₂ := S16x1) 1 x y
      concatenates_S16x2047_S16x1_S16x2048_d1 (ix2 b k) rfl (ix2 b ⟨k.val, h⟩) (fun a => match a with
        | ⟨0, _⟩ => rfl
        | ⟨1, _⟩ => rfl)
  · rename_i h
    exact concatenate_pair_apply_right (t := S16x2048) (s₁ := S16x2047) (s₂ := S16x1) 1 x y
      concatenates_S16x2047_S16x1_S16x2048_d1 (ix2 b k) rfl rfl (ix2 b 0) (fun a => match a with
        | ⟨0, _⟩ => fun _ => rfl
        | ⟨1, _⟩ => fun hne => absurd rfl hne)
        (by show 0 + 2047 = k.val; have := k.isLt; omega)

theorem lower_apply (e : Grid) (b : Fin 16) (k : Fin 2048) : lower (vec e) (ix2 b k) = ((e b (lo k) : ℝ) : EReal) := by
  unfold lower
  rw [joined_apply]
  split
  · rename_i h
    rw [extractStridedSlice_apply ![0, 0] (vec e) slices_S16x2048_o0_0_S16x2047 _ (ix2 b (lo k)) (fun a => match a with
      | ⟨0, _⟩ => (Nat.zero_add _).symm
      | ⟨1, _⟩ => by show min k.val 2046 = 0 + k.val; omega)]
    rfl
  · rename_i h
    rw [extractStridedSlice_apply ![0, 2046] (vec e) slices_S16x2048_o0_2046_S16x1 _ (ix2 b (lo k)) (fun a => match a with
      | ⟨0, _⟩ => (Nat.zero_add _).symm
      | ⟨1, _⟩ => by show min k.val 2046 = 2046 + 0; omega)]
    rfl

theorem upper_apply (e : Grid) (b : Fin 16) (k : Fin 2048) : upper (vec e) (ix2 b k) = ((e b (hi k) : ℝ) : EReal) := by
  unfold upper
  rw [joined_apply]
  split
  · rename_i h
    rw [extractStridedSlice_apply ![0, 1] (vec e) slices_S16x2048_o0_1_S16x2047 _ (ix2 b (hi k)) (fun a => match a with
      | ⟨0, _⟩ => (Nat.zero_add _).symm
      | ⟨1, _⟩ => by show min k.val 2046 + 1 = 1 + k.val; omega)]
    rfl
  · rename_i h
    rw [extractStridedSlice_apply ![0, 2047] (vec e) slices_S16x2048_o0_2047_S16x1 _ (ix2 b (hi k)) (fun a => match a with
      | ⟨0, _⟩ => (Nat.zero_add _).symm
      | ⟨1, _⟩ => by show min k.val 2046 + 1 = 2047 + 0; omega)]
    rfl

/-- THE STEP: on real increments and positions the kernel's step is the real step. -/
theorem euler_eq (v : Vec Ideal S1x16x2048 .f32) (e r : Grid) (hv : scaled v = vec e) :
    euler v (vec r) = vec (rstep e r) := by
  refine eq_vec _ _ fun b k => ?_
  unfold euler
  rw [hv, addf_apply, addf_apply, mulf_apply, mulf_apply, subf_apply, weight_apply, fill_apply, lit_one, lower_apply,
    upper_apply, vec_apply, ← EReal.coe_sub, ← EReal.coe_mul, ← EReal.coe_mul, ← EReal.coe_add, ← EReal.coe_add]
  rfl

/-- The displacements with the steps first, as a vector of ideal floats. -/
def dsFirst (g : Fin 16 → Fin 2048 → Fin 8 → ℝ) : FVec Ideal S8x16x2048 .f32 :=
  fun j => ((g (j 1) (j 2) (j 0) : ℝ) : EReal)

/-- Slab `n` over 32 is the increments of step `n`. -/
theorem scaled_eq (g : Fin 16 → Fin 2048 → Fin 8 → ℝ) (n : Nat) (hn : n < 8)
    (inb : ∀ a, (![n, 0, 0] : Fin 3 → Nat) a + S1x16x2048.size a ≤ S8x16x2048.size a) :
    scaled (View.ld (dsFirst g) (Rect.unit (s := S8x16x2048) ![n, 0, 0] S1x16x2048.size inb)) = vec (incs g n) := by
  refine eq_vec _ _ fun b k => ?_
  unfold scaled
  rw [mulf_apply, fill_apply, lit_inv32, shapeCast_apply _ shapeCasts_S1x16x2048_S16x2048 (ix2 b k) (ix3 0 b k)
      (by rewrite [Shape.rowMajor_val_three, Shape.rowMajor_val_two]
          show (0 * 16 + b.val) * 2048 + k.val = b.val * 2048 + k.val
          omega)]
  have e : (Rect.unit (s := S8x16x2048) ![n, 0, 0] S1x16x2048.size inb).idx (ix3 0 b k) = ix3 (Fin.ofNat 8 n) b k := by
    funext a
    refine Fin.ext ?_
    match a with
    | ⟨0, _⟩ => show n + 0 * 1 = n % 8; omega
    | ⟨1, _⟩ => show 0 + 1 * b.val = b.val; omega
    | ⟨2, _⟩ => show 0 + 1 * k.val = k.val; omega
  show dsFirst g ((Rect.unit (s := S8x16x2048) ![n, 0, 0] S1x16x2048.size inb).idx (ix3 0 b k)) * _ = _
  rw [e]
  show ((g b k (Fin.ofNat 8 n) : ℝ) : EReal) * _ = _
  rw [← EReal.coe_mul]
  unfold incs
  congr 1
  ring

/-! ## The kernel's values -/

/-- The final positions the body stores, of the whole displacement block. -/
def positions (x : Vec Ideal S8x16x2048 .f32) : FVec Ideal S16x2048 .f32 :=
  k0_pay12 (k0_pay22 x) (k0_pay23 x) (k0_pay24 x) (k0_pay25 x) (View.ld x r0_7)

theorem positions_rfl (x : Vec Ideal S8x16x2048 .f32) :
    positions x = euler (View.ld x r0_7) (euler (View.ld x r0_6) (euler (View.ld x r0_5) (euler (View.ld x r0_4)
      (euler (View.ld x r0_3) (euler (View.ld x r0_2) (euler (View.ld x r0_1) (euler (View.ld x r0_0)
        (k0_pay4 (F := Ideal))))))))) := rfl

theorem frac_rfl (x : Vec Ideal S8x16x2048 .f32) : k0_pay26 (F := Ideal) x = weight (positions x) := rfl

variable (g : Fin 16 → Fin 2048 → Fin 8 → ℝ)

/-- The final positions are the walk's. -/
theorem positions_eq : positions (dsFirst g) = vec (walk (incs g) 8) := by
  rw [positions_rfl, start_eq,
    euler_eq _ _ _ (scaled_eq g 0 (by omega) _), euler_eq _ _ _ (scaled_eq g 1 (by omega) _),
    euler_eq _ _ _ (scaled_eq g 2 (by omega) _), euler_eq _ _ _ (scaled_eq g 3 (by omega) _),
    euler_eq _ _ _ (scaled_eq g 4 (by omega) _), euler_eq _ _ _ (scaled_eq g 5 (by omega) _),
    euler_eq _ _ _ (scaled_eq g 6 (by omega) _), euler_eq _ _ _ (scaled_eq g 7 (by omega) _)]
  rfl

/-- The parameter of the cubic at row `k`. -/
abbrev par (b : Fin 16) (k : Fin 2048) : ℝ := wt (walk (incs g) 8) b k

theorem frac_apply (b : Fin 16) (k : Fin 2048) : k0_pay26 (F := Ideal) (dsFirst g) (ix2 b k) = ((par g b k : ℝ) : EReal) := by
  rw [frac_rfl, positions_eq, weight_apply]

/-- Whether a row number is the named one. -/
theorem row_is (w : BitVec 32) (b : Fin 16) (k : Fin 2048) :
    cmpi .eq (iota .tc S16x2048 32 [1] iota_S16x2048_d1_w32) (broadcast S16x2048 w) (ix2 b k)
      = IntOp.cmpi .eq (BitVec.ofNat 32 k.val) w := by
  show IntOp.cmpi .eq (iota .tc S16x2048 32 [1] iota_S16x2048_d1_w32 (ix2 b k)) w = _
  rw [iota_single_apply]

/-- Choosing between two values by whether a row number is the named one. -/
theorem pick {α : Type} (w : BitVec 32) (n : Nat) (hn : n < 2048) (hw : w = BitVec.ofNat 32 n) (k : Fin 2048) (x y : α) :
    Scalar.select (IntOp.cmpi .eq (BitVec.ofNat 32 k.val) w) x y = if k.val = n then x else y := by
  subst hw
  by_cases h : k.val = n
  · rw [if_pos h, h, StableHlo.Predicate.cmpi_eq_iff.mpr rfl]; rfl
  · have h0 : IntOp.cmpi .eq (BitVec.ofNat 32 k.val) (BitVec.ofNat 32 n) = 0#1 :=
      eq_zero_of_ne_one (fun hh => h (by
        have := congrArg BitVec.toNat (StableHlo.Predicate.cmpi_eq_iff.mp hh)
        rw [BitVec.toNat_ofNat, BitVec.toNat_ofNat, Nat.mod_eq_of_lt (by omega), Nat.mod_eq_of_lt (by omega)] at this
        exact this))
    rw [if_neg h, h0]; rfl

section Coefs
variable (t : FVec Ideal S16x2048 .f32) (u : ℝ) (b : Fin 16) (k : Fin 2048) (ht : t (ix2 b k) = (u : EReal))
include ht

theorem square_apply : k0_pay14 t (ix2 b k) = ((u * u : ℝ) : EReal) := by
  show t (ix2 b k) * t (ix2 b k) = _
  rw [ht, ← EReal.coe_mul]
theorem cube_apply : k0_pay15 t (ix2 b k) = ((u * u * u : ℝ) : EReal) := by
  show k0_pay14 t (ix2 b k) * t (ix2 b k) = _
  rw [square_apply t u b k ht, ht, ← EReal.coe_mul]
theorem coef0_apply : k0_pay16 t (ix2 b k) = ((cf0 u : ℝ) : EReal) := by
  show Ideal.ofBits .f32 0x3F000000#32 * (((Ideal.ofBits .f32 0x00000000#32 - t (ix2 b k))
    + Ideal.ofBits .f32 0x40000000#32 * k0_pay14 t (ix2 b k)) - k0_pay15 t (ix2 b k)) = _
  rw [square_apply t u b k ht, cube_apply t u b k ht, ht, lit_half, lit_zero, lit_two]
  simp only [← EReal.coe_mul, ← EReal.coe_add, ← EReal.coe_sub]
  rfl
theorem coef3_apply : k0_pay17 t (ix2 b k) = ((cf3 u : ℝ) : EReal) := by
  show Ideal.ofBits .f32 0x3F000000#32 * (k0_pay15 t (ix2 b k) - k0_pay14 t (ix2 b k)) = _
  rw [square_apply t u b k ht, cube_apply t u b k ht, lit_half]
  simp only [← EReal.coe_mul, ← EReal.coe_add, ← EReal.coe_sub]
  rfl
/-- The stored weight of the row before, nothing at row 0. -/
theorem out0_apply : k0_pay19 t (ix2 b k) = (((if k.val = 0 then 0 else cf0 u) : ℝ) : EReal) := by
  show Scalar.select (cmpi .eq (iota .tc S16x2048 32 [1] iota_S16x2048_d1_w32) (broadcast S16x2048 0#32) (ix2 b k))
    (Ideal.ofBits .f32 0x00000000#32) (k0_pay16 t (ix2 b k)) = _
  rw [row_is, pick 0#32 0 (by omega) rfl, coef0_apply t u b k ht, lit_zero]
  by_cases h : k.val = 0
  · rw [if_pos h, if_pos h]
  · rw [if_neg h, if_neg h]
/-- The weight of the row itself before the last row is set apart: at row 0 the row before is added. -/
theorem out1_apply : k0_pay18 t (ix2 b k) = (((if k.val = 0 then cf1 u + cf0 u else cf1 u) : ℝ) : EReal) := by
  have e : Ideal.ofBits .f32 0x3F000000#32 * ((Ideal.ofBits .f32 0x40000000#32
      - Ideal.ofBits .f32 0x40A00000#32 * k0_pay14 t (ix2 b k))
      + Ideal.ofBits .f32 0x40400000#32 * k0_pay15 t (ix2 b k)) = ((cf1 u : ℝ) : EReal) := by
    rw [square_apply t u b k ht, cube_apply t u b k ht, lit_half, lit_two, lit_three, lit_five]
    simp only [← EReal.coe_mul, ← EReal.coe_add, ← EReal.coe_sub]
    rfl
  show Scalar.select (cmpi .eq (iota .tc S16x2048 32 [1] iota_S16x2048_d1_w32) (broadcast S16x2048 0#32) (ix2 b k))
    (Ideal.ofBits .f32 0x3F000000#32 * ((Ideal.ofBits .f32 0x40000000#32
      - Ideal.ofBits .f32 0x40A00000#32 * k0_pay14 t (ix2 b k))
      + Ideal.ofBits .f32 0x40400000#32 * k0_pay15 t (ix2 b k)) + k0_pay16 t (ix2 b k))
    (Ideal.ofBits .f32 0x3F000000#32 * ((Ideal.ofBits .f32 0x40000000#32
      - Ideal.ofBits .f32 0x40A00000#32 * k0_pay14 t (ix2 b k))
      + Ideal.ofBits .f32 0x40400000#32 * k0_pay15 t (ix2 b k))) = _
  rw [row_is, pick 0#32 0 (by omega) rfl, e, coef0_apply t u b k ht,
    ← EReal.coe_add]
  by_cases h : k.val = 0
  · rw [if_pos h, if_pos h]
  · rw [if_neg h, if_neg h]
/-- The weight of the row after before the last row is set apart: at row 2046 the row beyond is added. -/
theorem out2_apply : k0_pay20 t (ix2 b k) = (((if k.val = 2046 then cf2 u + cf3 u else cf2 u) : ℝ) : EReal) := by
  have e : Ideal.ofBits .f32 0x3F000000#32 * ((t (ix2 b k)
      + Ideal.ofBits .f32 0x40800000#32 * k0_pay14 t (ix2 b k))
      - Ideal.ofBits .f32 0x40400000#32 * k0_pay15 t (ix2 b k)) = ((cf2 u : ℝ) : EReal) := by
    rw [square_apply t u b k ht, cube_apply t u b k ht, ht, lit_half, lit_three, lit_four]
    simp only [← EReal.coe_mul, ← EReal.coe_add, ← EReal.coe_sub]
    rfl
  show Scalar.select (cmpi .eq (iota .tc S16x2048 32 [1] iota_S16x2048_d1_w32) (broadcast S16x2048 2046#32) (ix2 b k))
    (Ideal.ofBits .f32 0x3F000000#32 * ((t (ix2 b k)
      + Ideal.ofBits .f32 0x40800000#32 * k0_pay14 t (ix2 b k))
      - Ideal.ofBits .f32 0x40400000#32 * k0_pay15 t (ix2 b k)) + k0_pay17 t (ix2 b k))
    (Ideal.ofBits .f32 0x3F000000#32 * ((t (ix2 b k)
      + Ideal.ofBits .f32 0x40800000#32 * k0_pay14 t (ix2 b k))
      - Ideal.ofBits .f32 0x40400000#32 * k0_pay15 t (ix2 b k))) = _
  rw [row_is, pick 2046#32 2046 (by omega) rfl, e,
    coef3_apply t u b k ht, ← EReal.coe_add]
  by_cases h : k.val = 2046
  · rw [if_pos h, if_pos h]
  · rw [if_neg h, if_neg h]
end Coefs

/-- A choice on the last row is its second value at any other row. -/
theorem not_last {α : Type} (b : Fin 16) (k : Fin 2048) (hk : k.val < 2047) (x y : α) :
    Scalar.select (cmpi .eq (iota .tc S16x2048 32 [1] iota_S16x2048_d1_w32) (broadcast S16x2048 2047#32) (ix2 b k)) x y
      = y := by
  rw [row_is, pick 2047#32 2047 (by omega) rfl, if_neg (by omega)]

/-! ## What the body leaves in its five output blocks -/

theorem zero2 : (![0, 0] : Fin 2 → Nat) = fun _ => 0 := funext fun a => by fin_cases a <;> rfl

/-- The block of final positions. -/
theorem block1_eq : out0_1 (F := Ideal) (dsFirst g) = vec (walk (incs g) 8) := by
  unfold out0_1
  rw [View.canon_unit_zero zero2]
  exact positions_eq g

theorem block2_apply (b : Fin 16) (k : Fin 2048) :
    out0_2 (F := Ideal) (dsFirst g) (ix2 b k) = (((if k.val = 0 then 0 else cf0 (par g b k)) : ℝ) : EReal) := by
  unfold out0_2
  rw [View.canon_unit_zero zero2]
  exact out0_apply _ _ b k (frac_apply g b k)
theorem block3_apply (b : Fin 16) (k : Fin 2048) (hk : k.val < 2047) :
    out0_3 (F := Ideal) (dsFirst g) (ix2 b k)
      = (((if k.val = 0 then cf1 (par g b k) + cf0 (par g b k) else cf1 (par g b k)) : ℝ) : EReal) := by
  unfold out0_3
  rw [View.canon_unit_zero zero2]
  exact (not_last b k hk _ _).trans (out1_apply _ _ b k (frac_apply g b k))
theorem block4_apply (b : Fin 16) (k : Fin 2048) (hk : k.val < 2047) :
    out0_4 (F := Ideal) (dsFirst g) (ix2 b k)
      = (((if k.val = 2046 then cf2 (par g b k) + cf3 (par g b k) else cf2 (par g b k)) : ℝ) : EReal) := by
  unfold out0_4
  rw [View.canon_unit_zero zero2]
  exact (not_last b k hk _ _).trans (out2_apply _ _ b k (frac_apply g b k))
theorem block5_apply (b : Fin 16) (k : Fin 2048) :
    out0_5 (F := Ideal) (dsFirst g) (ix2 b k) = (((if k.val = 2046 then 0 else cf3 (par g b k)) : ℝ) : EReal) := by
  unfold out0_5
  rw [View.canon_unit_zero zero2]
  show Scalar.select (cmpi .eq (iota .tc S16x2048 32 [1] iota_S16x2048_d1_w32) (broadcast S16x2048 2046#32) (ix2 b k))
    (Ideal.ofBits .f32 0x00000000#32) (k0_pay17 (k0_pay26 (F := Ideal) (dsFirst g)) (ix2 b k)) = _
  rw [row_is, pick 2046#32 2046 (by omega) rfl, lit_zero,
    coef3_apply _ _ b k (frac_apply g b k)]
  by_cases h : k.val = 2046
  · rw [if_pos h, if_pos h]
  · rw [if_neg h, if_neg h]

end Cert.Warp.Ker
-- ==== Proof.Stencil.lean ====
/-
  The second kernel's block: one batch of rows and its four coefficient columns in, one batch of results out. The kernel
  stores its block in four pieces: the rows 1 … 2045 with four taps, the first row with three, row 2046 with three, and
  the last row as a copy. Each is read here at an index, and together they are the cubic of `Math` at every row.
-/
module

public import proofs.«01_k».proof.Proof.Coef

@[expose] public section

set_option maxRecDepth 16384

noncomputable section

namespace Cert.Warp.Ker

open Cert.KernelIdeal Cert.KernelIdeal.Gen Idealize.ShloMosaic Idealize.ShloMosaic.ValueIdx

/-- A run of whole rows from row `o`, read at a row. -/
theorem rows_apply {n : ℕ} (o : ℕ) (x : FVec Ideal S2048x512 .f32) (h : S2048x512.Slices ![o, 0] ⟨2, ![n, 512]⟩)
    (k : Fin n) (d : Fin 512) (r : Fin 2048) (hr : r.val = o + k.val) :
    extractStridedSlice ⟨2, ![n, 512]⟩ ![o, 0] x h (ix2 k d) = x (ix2 r d) :=
  extractStridedSlice_apply ![o, 0] x h _ (ix2 r d) (fun a => match a with
    | ⟨0, _⟩ => hr
    | ⟨1, _⟩ => (Nat.zero_add _).symm)

/-- One entry of the coefficients, spread over a row. -/
theorem tap_apply (o c : ℕ) (y : FVec Ideal S2048x4 .f32) (h : S2048x4.Slices ![o, c] S1x1) (d : Fin 512)
    (r : Fin 2048) (e : Fin 4) (hr : r.val = o) (he : e.val = c) :
    broadcastTo S1x512 (extractStridedSlice S1x1 ![o, c] y h) broadcasts_S1x1_S1x512 (ix2 0 d) = y (ix2 r e) := by
  rw [broadcastTo_apply (extractStridedSlice S1x1 ![o, c] y h) broadcasts_S1x1_S1x512 (ix2 0 d) (ix2 0 0)
    (fun a => match a with
      | ⟨0, _⟩ => (if_pos (rfl : 1 = 1)).symm
      | ⟨1, _⟩ => (if_pos (rfl : 1 = 1)).symm)]
  exact extractStridedSlice_apply ![o, c] y h _ (ix2 r e) (fun a => match a with
    | ⟨0, _⟩ => hr.trans (Nat.add_zero _).symm
    | ⟨1, _⟩ => he.trans (Nat.add_zero _).symm)

/-- One column of the coefficients of the rows 1 … 2045, spread over their rows. -/
theorem taps_apply (c : ℕ) (y : FVec Ideal S2048x4 .f32) (h : S2045x4.Slices ![0, c] S2045x1) (k : Fin 2045) (d : Fin 512)
    (r : Fin 2048) (e : Fin 4) (hr : r.val = 1 + k.val) (he : e.val = c) :
    broadcastTo S2045x512 (extractStridedSlice S2045x1 ![0, c]
      (extractStridedSlice S2045x4 ![1, 0] y slices_S2048x4_o1_0_S2045x4) h) broadcasts_S2045x1_S2045x512 (ix2 k d)
      = y (ix2 r e) := by
  rw [broadcastTo_apply _ broadcasts_S2045x1_S2045x512 (ix2 k d) (ix2 k 0)
    (fun a => match a with
      | ⟨0, _⟩ => (if_neg (by decide : ¬(2045 = 1))).symm
      | ⟨1, _⟩ => (if_pos (rfl : 1 = 1)).symm),
    extractStridedSlice_apply ![0, c] _ h _ (ix2 k e) (fun a => match a with
      | ⟨0, _⟩ => (Nat.zero_add _).symm
      | ⟨1, _⟩ => he.trans (Nat.add_zero _).symm)]
  exact extractStridedSlice_apply ![1, 0] y slices_S2048x4_o1_0_S2045x4 _ (ix2 r e) (fun a => match a with
    | ⟨0, _⟩ => hr
    | ⟨1, _⟩ => (Nat.zero_add _).symm)

/-- A block of one batch, its batch axis dropped. -/
theorem squeeze_apply (x : Vec Ideal S1x2048x512 .f32) (k : Fin 2048) (d : Fin 512) :
    k1_pay3 (F := Ideal) x (ix2 k d) = x (ix3 0 k d) :=
  shapeCast_apply x shapeCasts_S1x2048x512_S2048x512 (ix2 k d) (ix3 0 k d) (by
    rewrite [Shape.rowMajor_val_three, Shape.rowMajor_val_two]
    show (0 * 2048 + k.val) * 512 + d.val = k.val * 512 + d.val
    omega)
theorem squeeze_coef_apply (y : Vec Ideal S1x2048x4 .f32) (k : Fin 2048) (e : Fin 4) :
    k1_pay4 (F := Ideal) y (ix2 k e) = y (ix3 0 k e) :=
  shapeCast_apply y shapeCasts_S1x2048x4_S2048x4 (ix2 k e) (ix3 0 k e) (by
    rewrite [Shape.rowMajor_val_three, Shape.rowMajor_val_two]
    show (0 * 2048 + k.val) * 4 + e.val = k.val * 4 + e.val
    omega)

/-- A run of rows stored as a block of one batch. -/
theorem unsqueeze_apply {n : ℕ} (x : FVec Ideal ⟨2, ![n, 512]⟩ .f32) (h : (⟨2, ![n, 512]⟩ : Shape).ShapeCasts ⟨3, ![1, n, 512]⟩)
    (k : Fin n) (d : Fin 512) : shapeCast ⟨3, ![1, n, 512]⟩ x h (ix3 0 k d) = x (ix2 k d) :=
  shapeCast_apply x h (ix3 0 k d) (ix2 k d) (by
    rewrite [Shape.rowMajor_val_three, Shape.rowMajor_val_two]
    show k.val * 512 + d.val = (0 * n + k.val) * 512 + d.val
    omega)

section Pieces

variable (x : Vec Ideal S1x2048x512 .f32) (y : Vec Ideal S1x2048x4 .f32)

/-- The rows 1 … 2045: four taps. -/
theorem inner_apply (k : Fin 2045) (d : Fin 512) (r0 r1 r2 r3 : Fin 2048) (h0 : r0.val = k.val) (h1 : r1.val = 1 + k.val)
    (h2 : r2.val = 2 + k.val) (h3 : r3.val = 3 + k.val) :
    k1_pay5 (F := Ideal) x y (ix3 0 k d)
      = ((y (ix3 0 r1 0) * x (ix3 0 r0 d) + y (ix3 0 r1 1) * x (ix3 0 r1 d)) + y (ix3 0 r1 2) * x (ix3 0 r2 d))
          + y (ix3 0 r1 3) * x (ix3 0 r3 d) := by
  unfold k1_pay5
  rw [unsqueeze_apply, addf_apply, addf_apply, addf_apply, mulf_apply, mulf_apply, mulf_apply, mulf_apply,
    taps_apply 0 _ _ k d r1 0 h1 rfl, taps_apply 1 _ _ k d r1 1 h1 rfl, taps_apply 2 _ _ k d r1 2 h1 rfl,
    taps_apply 3 _ _ k d r1 3 h1 rfl, rows_apply 0 _ _ k d r0 (by omega), rows_apply 1 _ _ k d r1 h1,
    rows_apply 2 _ _ k d r2 h2, rows_apply 3 _ _ k d r3 h3]
  simp only [squeeze_apply, squeeze_coef_apply]

/-- The first row: three taps. -/
theorem first_apply (d : Fin 512) :
    k1_pay6 (F := Ideal) x y (ix3 0 0 d)
      = (y (ix3 0 0 1) * x (ix3 0 0 d) + y (ix3 0 0 2) * x (ix3 0 1 d)) + y (ix3 0 0 3) * x (ix3 0 2 d) := by
  unfold k1_pay6
  rw [unsqueeze_apply, addf_apply, addf_apply, mulf_apply, mulf_apply, mulf_apply,
    tap_apply 0 1 _ _ d 0 1 rfl rfl, tap_apply 0 2 _ _ d 0 2 rfl rfl, tap_apply 0 3 _ _ d 0 3 rfl rfl,
    rows_apply 0 _ _ 0 d 0 rfl, rows_apply 1 _ _ 0 d 1 rfl, rows_apply 2 _ _ 0 d 2 rfl]
  simp only [squeeze_apply, squeeze_coef_apply]

/-- Row 2046: three taps. -/
theorem nearLast_apply (d : Fin 512) :
    k1_pay1 (F := Ideal) (k1_pay3 x) (k1_pay4 y) (ix3 0 0 d)
      = (y (ix3 0 2046 0) * x (ix3 0 2045 d) + y (ix3 0 2046 1) * x (ix3 0 2046 d)) + y (ix3 0 2046 2) * x (ix3 0 2047 d) := by
  unfold k1_pay1
  rw [unsqueeze_apply, addf_apply, addf_apply, mulf_apply, mulf_apply, mulf_apply,
    tap_apply 2046 0 _ _ d 2046 0 rfl rfl, tap_apply 2046 1 _ _ d 2046 1 rfl rfl, tap_apply 2046 2 _ _ d 2046 2 rfl rfl,
    rows_apply 2045 _ _ 0 d 2045 rfl, rows_apply 2046 _ _ 0 d 2046 rfl, rows_apply 2047 _ _ 0 d 2047 rfl]
  simp only [squeeze_apply, squeeze_coef_apply]

/-- The last row: a copy. -/
theorem last_apply (d : Fin 512) : k1_pay2 (F := Ideal) (k1_pay3 x) (ix3 0 0 d) = x (ix3 0 2047 d) := by
  unfold k1_pay2
  rw [unsqueeze_apply, rows_apply 2047 _ _ 0 d 2047 rfl, squeeze_apply]

end Pieces

theorem zero3 : (![0, 0, 0] : Fin 3 → ℕ) = fun _ => 0 := funext fun a => by fin_cases a <;> rfl

/-- The block's four pieces, the last stored first. -/
theorem pieces_eq (c : Dev nD) (i : grid1.Coords) (a2 : Memref sig .tc .vmem S1x2048x512 .f32) (h2 : a2.IsWhole)
    (a3 : Memref sig .tc .vmem S1x2048x4 .f32) (h3 : a3.IsWhole) (a4 : Memref sig .tc .vmem S1x2048x512 .f32)
    (h4 : a4.IsWhole) (x : Vec Ideal S1x2048x512 .f32) (y : Vec Ideal S1x2048x4 .f32) :
    out1_A_2 c i a2 h2 a3 h3 a4 h4 x y
      = View.canon [⟨Rect.unit (s := S1x2048x512) ![0, 2047, 0] S1x1x512.size inb_S1x2048x512_S1x1x512_0_2047_0,
            k1_pay2 (F := Ideal) (k1_pay3 x)⟩,
          ⟨Rect.unit (s := S1x2048x512) ![0, 2046, 0] S1x1x512.size inb_S1x2048x512_S1x1x512_0_2046_0,
            k1_pay1 (F := Ideal) (k1_pay3 x) (k1_pay4 y)⟩,
          ⟨Rect.unit (s := S1x2048x512) ![0, 0, 0] S1x1x512.size inb_S1x2048x512_S1x1x512_0_0_0, k1_pay6 (F := Ideal) x y⟩,
          ⟨Rect.unit (s := S1x2048x512) ![0, 1, 0] S1x2045x512.size inb_S1x2048x512_S1x2045x512_0_1_0,
            k1_pay5 (F := Ideal) x y⟩] := by
  unfold out1_A_2
  rw [View.read_writes_eq_canon _ _ _ (cover1_A_2 c i a2 h2 a3 h3 a4 h4 x y)]
  unfold kernelRun1_A
  dsimp only
  sl_unfold_words
  simp only [View.readAt_eq_ld, h2.read_unread, h3.read_unread, View.ld_unit_zero (S := S1x2048x512) zero3,
    View.ld_unit_zero (S := S1x2048x4) zero3]

/-- An index of a block of one batch, from its two free coordinates. -/
theorem eq_local {n : ℕ} (j : (⟨3, ![1, n, 512]⟩ : Shape).Idx) (k : Fin n) (d : Fin 512) (h0 : (j 0).val = 0)
    (h1 : (j 1).val = k.val) (h2 : (j 2).val = d.val) : j = ix3 0 k d :=
  funext fun a => match a with
    | ⟨0, _⟩ => Fin.ext h0
    | ⟨1, _⟩ => Fin.ext h1
    | ⟨2, _⟩ => Fin.ext h2

/-- THE BLOCK: on real rows `X` and the coefficient columns of real weights `t`, 1 at the last row, the block is the cubic at
    every row. The first row's four samples are three rows because the row before it is itself, and its first weight is
    folded into the second; row 2046's last weight is folded in the same way; the last row's cubic at 1 is its sample. -/
theorem block_apply (c : Dev nD) (i : grid1.Coords) (a2 : Memref sig .tc .vmem S1x2048x512 .f32) (h2 : a2.IsWhole)
    (a3 : Memref sig .tc .vmem S1x2048x4 .f32) (h3 : a3.IsWhole) (a4 : Memref sig .tc .vmem S1x2048x512 .f32)
    (h4 : a4.IsWhole) (x : Vec Ideal S1x2048x512 .f32) (y : Vec Ideal S1x2048x4 .f32)
    (X : Fin 2048 → Fin 512 → ℝ) (t : Fin 2048 → ℝ) (ht : ∀ k : Fin 2048, k.val = 2047 → t k = 1)
    (hx : ∀ k d, x (ix3 0 k d) = ((X k d : ℝ) : EReal))
    (y0 : ∀ k : Fin 2048, y (ix3 0 k 0) = (((if k.val = 0 then 0 else cf0 (t k)) : ℝ) : EReal))
    (y1 : ∀ k : Fin 2048, k.val < 2047 →
      y (ix3 0 k 1) = (((if k.val = 0 then cf1 (t k) + cf0 (t k) else cf1 (t k)) : ℝ) : EReal))
    (y2 : ∀ k : Fin 2048, k.val < 2047 →
      y (ix3 0 k 2) = (((if k.val = 2046 then cf2 (t k) + cf3 (t k) else cf2 (t k)) : ℝ) : EReal))
    (y3 : ∀ k : Fin 2048, y (ix3 0 k 3) = (((if k.val = 2046 then 0 else cf3 (t k)) : ℝ) : EReal))
    (k : Fin 2048) (d : Fin 512) :
    out1_A_2 c i a2 h2 a3 h3 a4 h4 x y (ix3 0 k d)
      = ((cubic (X (before k) d) (X (lo k) d) (X (hi k) d) (X (beyond k) d) (t k) : ℝ) : EReal) := by
  rw [pieces_eq]
  canon_tiles j h using (View.cover_of_tiledBy _ ![1, 1, 512] (by sl_kernel_rfl) _)
  · have e1 : k.val = 2047 + (j 1).val := h1
    have e2 : d.val = (j 2).val := h2
    obtain rfl : k = 2047 := Fin.ext (show k.val = 2047 by omega)
    obtain rfl : j = ix3 0 0 d := eq_local j 0 d (by omega) (by show (j 1).val = 0; omega) e2.symm
    rw [last_apply, hx, ht 2047 rfl, cubic_one]
    rfl
  · have e1 : k.val = 2046 + (j 1).val := h1
    have e2 : d.val = (j 2).val := h2
    obtain rfl : k = 2046 := Fin.ext (show k.val = 2046 by omega)
    obtain rfl : j = ix3 0 0 d := eq_local j 0 d (by omega) (by show (j 1).val = 0; omega) e2.symm
    rw [nearLast_apply, hx, hx, hx, y0, y1 2046 (by decide), y2 2046 (by decide), if_neg (by decide), if_neg (by decide),
      if_pos (by decide)]
    simp only [← EReal.coe_mul, ← EReal.coe_add]
    exact congrArg _ (cubic_last (X 2045 d) (X 2046 d) (X 2047 d) (t 2046)).symm
  · have e1 : k.val = (j 1).val := h1
    have e2 : d.val = (j 2).val := h2
    obtain rfl : k = 0 := Fin.ext (show k.val = 0 by omega)
    obtain rfl : j = ix3 0 0 d := eq_local j 0 d (by omega) (by show (j 1).val = 0; omega) e2.symm
    rw [first_apply, hx, hx, hx, y1 0 (by decide), y2 0 (by decide), y3, if_pos (by decide), if_neg (by decide),
      if_neg (by decide)]
    simp only [← EReal.coe_mul, ← EReal.coe_add]
    exact congrArg _ (cubic_first (X 0 d) (X 1 d) (X 2 d) (t 0)).symm
  · have e1 : k.val = 1 + (j 1).val := h1
    have e2 : d.val = (j 2).val := h2
    have hl : lo k = k := Fin.ext (show min k.val 2046 = k.val by omega)
    refine (congrArg _ (eq_local j ⟨(j 1).val, j1_lt⟩ d (by omega) rfl e2.symm)).trans ?_
    rw [inner_apply x y _ d (before k) (lo k) (hi k) (beyond k) (by show min k.val 2046 - 1 = (j 1).val; omega)
      (by show min k.val 2046 = 1 + (j 1).val; omega) (by show min k.val 2046 + 1 = 2 + (j 1).val; omega)
      (by show min (min k.val 2046 + 2) 2047 = 3 + (j 1).val; omega), hl, hx, hx, hx, hx, y0, y1 k (by omega), y2 k (by omega),
      y3, if_neg (by omega), if_neg (by omega), if_neg (by omega), if_neg (by omega)]
    simp only [← EReal.coe_mul, ← EReal.coe_add]
    exact congrArg _ (cubic_eq _ _ _ _ (t k)).symm

end Cert.Warp.Ker
-- ==== Proof.Arrays.lean ====
/-
  The arrays the two kernels leave. The first kernel has one point and its windows are whole arrays, so each of its results is
  its block. The second has a point per batch, and its result's blocks are the batches.
-/
module

public import proofs.«01_k».proof.Proof.Stencil
public import Idealize.ShloMosaic.Lib.Pipeline.ValueKit.Geometry

@[expose] public section

set_option maxRecDepth 16384

noncomputable section

namespace Cert.Warp.Ker

open Cert.KernelIdeal Cert.KernelIdeal.Gen Idealize.ShloMosaic Idealize.ShloMosaic.ValueIdx Idealize.ShloMosaic.TcCoe
open Idealize.SL Idealize.SL.Sem
open Idealize.ShloMosaic.Pipeline (Dat)

variable (V : (c : Dev nD) → (b : Ref sig .tc) → Buf (Elt Ideal) ((c : Thread nD τ).loc b)) (c : Dev nD)

/-- The first kernel's input block is its array. -/
theorem entry0 (t : Fin cfg0.N) : iblk0 V c 0 t = V c main_v0 := by
  funext y
  show V c main_v0 ((win0_0.blk t).view.emb y) = V c main_v0 y
  congr 1
  blk_ext [(by decide +kernel : ∀ t : Fin grid0.N, win0_0.index t = ![0, 0, 0])]

/-- The positions, as the first kernel leaves them. -/
theorem final0_1 : (dat0 V c).arrAt 1 cfg0.N = out0_1 (V c main_v0) := by
  refine (dat0 V c).arrAt_eq_of_after_last 1 t0_0 (by decide +kernel) _ fun j => ?_
  blk_simp
  rw [after0_1, entry0]
/-- The weights of the row before, as the first kernel leaves them. -/
theorem final0_2 : (dat0 V c).arrAt 2 cfg0.N = out0_2 (V c main_v0) := by
  refine (dat0 V c).arrAt_eq_of_after_last 2 t0_0 (by decide +kernel) _ fun j => ?_
  blk_simp
  rw [after0_2, entry0]
/-- The weights of the interval's first row, as the first kernel leaves them. -/
theorem final0_3 : (dat0 V c).arrAt 3 cfg0.N = out0_3 (V c main_v0) := by
  refine (dat0 V c).arrAt_eq_of_after_last 3 t0_0 (by decide +kernel) _ fun j => ?_
  blk_simp
  rw [after0_3, entry0]
/-- The weights of the interval's second row, as the first kernel leaves them. -/
theorem final0_4 : (dat0 V c).arrAt 4 cfg0.N = out0_4 (V c main_v0) := by
  refine (dat0 V c).arrAt_eq_of_after_last 4 t0_0 (by decide +kernel) _ fun j => ?_
  blk_simp
  rw [after0_4, entry0]
/-- The weights of the row after the interval, as the first kernel leaves them. -/
theorem final0_5 : (dat0 V c).arrAt 5 cfg0.N = out0_5 (V c main_v0) := by
  refine (dat0 V c).arrAt_eq_of_after_last 5 t0_0 (by decide +kernel) _ fun j => ?_
  blk_simp
  rw [after0_5, entry0]

/-- The second kernel's blocks at point `t`: batch `t` of its arrays. -/
theorem rows1 (t : Fin cfg1.N) (b : Fin 16) (hb : b.val = t.val) (k : Fin 2048) (d : Fin 512) :
    iblk1 V c 0 t (ix3 0 k d) = V c main_arg0 (ix3 b k d) := by
  show V c main_arg0 ((win1_0.blk t).view.emb (ix3 0 k d)) = V c main_arg0 (ix3 b k d)
  congr 1
  blk_ext [(by decide +kernel : ∀ t : Fin grid1.N, win1_0.index t = ![t.val, 0, 0])]
  exact hb.symm
theorem coefs1 (t : Fin cfg1.N) (b : Fin 16) (hb : b.val = t.val) (k : Fin 2048) (e : Fin 4) :
    iblk1 V c 1 t (ix3 0 k e) = V c main_v6 (ix3 b k e) := by
  show V c main_v6 ((win1_1.blk t).view.emb (ix3 0 k e)) = V c main_v6 (ix3 b k e)
  congr 1
  blk_ext [(by decide +kernel : ∀ t : Fin grid1.N, win1_1.index t = ![t.val, 0, 0])]
  exact hb.symm

/-- THE RESULT: on real rows and the coefficient columns of the weights of positions `r`, 1 at the last row, the second
    kernel leaves the warped array. -/
theorem final1 (X : Fin 16 → Fin 2048 → Fin 512 → ℝ) (r : Grid) (hlast : ∀ b (k : Fin 2048), k.val = 2047 → wt r b k = 1)
    (y : FVec Ideal S16x2048x4 .f32) (hx : V c main_arg0 = xsVec X) (hy : V c main_v6 = y)
    (y0 : ∀ b (k : Fin 2048), y (ix3 b k 0) = (((if k.val = 0 then 0 else cf0 (wt r b k)) : ℝ) : EReal))
    (y1 : ∀ b (k : Fin 2048), k.val < 2047 → y (ix3 b k 1)
      = (((if k.val = 0 then cf1 (wt r b k) + cf0 (wt r b k) else cf1 (wt r b k)) : ℝ) : EReal))
    (y2 : ∀ b (k : Fin 2048), k.val < 2047 → y (ix3 b k 2)
      = (((if k.val = 2046 then cf2 (wt r b k) + cf3 (wt r b k) else cf2 (wt r b k)) : ℝ) : EReal))
    (y3 : ∀ b (k : Fin 2048), y (ix3 b k 3) = (((if k.val = 2046 then 0 else cf3 (wt r b k)) : ℝ) : EReal)) :
    (dat1 V c).arrAt 2 cfg1.N = xsVec (warped X r) := by
  refine (dat1 V c).arrAt_eq_of_covers 2 _ (by decide +kernel) fun t _ z => ?_
  blk_simp
  rw [after1_2]
  have ht : t.val < 16 := Nat.lt_of_lt_of_eq t.isLt N_1
  obtain ⟨b, hb⟩ : ∃ b : Fin 16, b.val = t.val := ⟨⟨t.val, ht⟩, rfl⟩
  have hemb : (win1_2.blk t).view.emb z = ix3 b (z 1) (z 2) := by
    blk_ext [(by decide +kernel : ∀ t : Fin grid1.N, win1_2.index t = ![t.val, 0, 0])]
    exact hb.symm
  have hloc : z = ix3 0 (z 1) (z 2) := by
    have h0 : (z 0).val < 1 := (z 0).isLt
    exact eq_local (n := 2048) z (z 1) (z 2) (by omega) rfl rfl
  refine Eq.trans ?_ (congrArg (xsVec (warped X r)) hemb).symm
  refine (congrArg (outsAt1 V c t) hloc).trans ?_
  unfold outsAt1
  exact block_apply c _ _ _ _ _ _ _ (iblk1 V c 0 t) (iblk1 V c 1 t) (X b) (wt r b) (hlast b)
    (fun k d => (rows1 V c t b hb k d).trans (congrFun hx _))
    (fun k => (coefs1 V c t b hb k 0).trans ((congrFun hy _).trans (y0 b k)))
    (fun k hk => (coefs1 V c t b hb k 1).trans ((congrFun hy _).trans (y1 b k hk)))
    (fun k hk => (coefs1 V c t b hb k 2).trans ((congrFun hy _).trans (y2 b k hk)))
    (fun k => (coefs1 V c t b hb k 3).trans ((congrFun hy _).trans (y3 b k))) (z 1) (z 2)

end Cert.Warp.Ker
-- ==== Proof.Take.lean ====
/-
  Reading an array at an array of row numbers, the way the reference does: a negative number counts from the end, a number
  outside the array reads a filler, any other reads the element. When every number is in range this is the element, and
  that is the only case the reference meets. Two ranks are used: one row number per (batch, row), and one per
  (batch, column, row).
-/
module

public import proofs.«01_k».proof.Proof.Gen.ReferenceIdeal.Read
public import Idealize.ShloMosaic.Lib.ValueIdx
public import Idealize.ShloMosaic.Lib.StableHlo.Predicate

@[expose] public section

set_option maxRecDepth 16384

noncomputable section

namespace Cert.Warp.Ref

open Cert.ReferenceIdeal Cert.ReferenceIdeal.Gen Idealize.ShloMosaic Idealize.ShloMosaic.ValueIdx

/-! ## Words below 2048 -/

/-- A word below 2048 isn't negative. -/
theorem word_slt (n : Fin 2048) : IntOp.cmpi .slt (BitVec.ofNat 32 n.val) 0#32 = 0#1 := by
  revert n; decide +kernel
/-- A word below 2048 is at least 0 and at most 2047. -/
theorem word_inside (n : Fin 2048) :
    IntOp.andi (IntOp.cmpi .sge (BitVec.ofNat 32 n.val) 0#32) (IntOp.cmpi .sle (BitVec.ofNat 32 n.val) 2047#32) = 1#1 := by
  revert n; decide +kernel
/-- A word below 2048 read as a signed integer is the number itself. -/
theorem word_toInt (n : Fin 2048) : (BitVec.ofNat 32 n.val).toInt.toNat = n.val := by
  rw [StableHlo.Predicate.toInt_ofNat_small n.val (by omega)]; exact Int.toNat_natCast _

/-- The conjunction of bits that are all set is set. -/
theorem reduce_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have key : ∀ l : List (Fin s.numel), l.foldl (fun r n => IntOp.andi r (x (s.rowMajor.symm n))) 1#1 = 1#1 := by
    intro l
    induction l with
    | nil => rfl
    | cons a l ih => rw [List.foldl_cons, hx]; exact ih
  unfold Host.reduce
  rw [hi]
  exact key _

/-! ## One row number per (batch, row) -/

section Rank2
variable {α : Type}

/-- The dimension numbers of the rank-2 read, under a short name. -/
abbrev dims2 := gather_S16x2048_S16x2048x1_S16x2048_n_1_0_0_1_2_11

/-- The row numbers with the negative ones counted from the end, a unit axis added. -/
def wrap2 (i : IVec S16x2048 32) : IVec S16x2048x1 32 :=
  shapeCast _ (select (cmpi .slt i (broadcastInDim S16x2048 ![] bcast_S_S16x2048 (constantI S_ 32 0#32)))
    (addi i (broadcastInDim S16x2048 ![] bcast_S_S16x2048 (constantI S_ 32 2048#32))) i) shapeCasts_S16x2048_S16x2048x1

/-- Whether each row number is in range. -/
def inside2 (w : IVec S16x2048x1 32) : IVec S16x2048 1 :=
  Host.reduce IntOp.andi
    (andi (cmpi .sge w (broadcastInDim S16x2048x1 ![] bcast_S_S16x2048x1 (constantI S_ 32 0#32)))
      (cmpi .sle w (broadcastInDim S16x2048x1 ![0, 1, 2] bcast_S1x1x1_S16x2048x1_0_1_2
        (broadcastInDim S1x1x1 ![2] bcast_S1_S1x1x1_2 (constantI S1 32 2047#32)))))
    (constantI S_ 1 1#1) reducesTo_S16x2048x1_S16x2048_d2 h_S_

/-- The array read at the row numbers, the filler where a number is out of range. -/
def take2 (d : S16x2048.Idx → α) (i : IVec S16x2048 32) (nan : S16x2048.Idx → α) : S16x2048.Idx → α :=
  select (inside2 (wrap2 i))
    (Host.gather dims2 d (wrap2 i)) nan

variable (i : IVec S16x2048 32) (n : Fin 16 → Fin 2048 → Fin 2048)
  (h : ∀ b k, i (ix2 b k) = BitVec.ofNat 32 (n b k).val)
include h

theorem wrap2_apply (b : Fin 16) (k : Fin 2048) (z : Fin 1) :
    wrap2 i (ix3 b k z) = BitVec.ofNat 32 (n b k).val := by
  unfold wrap2
  rw [shapeCast_apply _ shapeCasts_S16x2048_S16x2048x1 (ix3 b k z) (ix2 b k)
    (by rewrite [Shape.rowMajor_val_three, Shape.rowMajor_val_two]
        have hz : z.val = 0 := by omega
        show b.val * 2048 + k.val = (b.val * 2048 + k.val) * 1 + z.val
        omega)]
  show Scalar.select (IntOp.cmpi .slt (i (ix2 b k)) 0#32) _ (i (ix2 b k)) = _
  rw [h, word_slt, select_zero]

theorem inside2_apply (j : S16x2048.Idx) : inside2 (wrap2 i) j = 1#1 := by
  unfold inside2
  refine reduce_ones _ _ _ _ (fun q => ?_) (fun _ => rfl) j
  rw [eq_ix3 q]
  show IntOp.andi (IntOp.cmpi .sge (wrap2 i (ix3 (q 0) (q 1) (q 2))) 0#32)
    (IntOp.cmpi .sle (wrap2 i (ix3 (q 0) (q 1) (q 2))) 2047#32) = 1#1
  rw [wrap2_apply i n h (q 0) (q 1) (q 2), word_inside]

/-- Where every row number is in range, reading at the row numbers reads the named elements. -/
theorem take2_apply (d nan : S16x2048.Idx → α) (b : Fin 16) (k : Fin 2048) :
    take2 d i nan (ix2 b k) = d (ix2 b (n b k)) := by
  unfold take2
  rw [select_apply, inside2_apply i n h, select_one]
  unfold Host.gather
  congr 1
  funext a
  refine Fin.ext ?_
  show dims2.start (ix2 b k) (wrap2 i) a + dims2.batchCoord (ix2 b k) a + dims2.offCoord (ix2 b k) a = _
  have h01 : a = 0 ∨ a = 1 := match a with
    | ⟨0, _⟩ => Or.inl rfl
    | ⟨1, _⟩ => Or.inr rfl
  rcases h01 with rfl | rfl
  · have hm : (0 : Fin 2) ∈ dims2.operandBatchingDims := List.mem_singleton.mpr rfl
    rw [GatherDims.start_batching _ _ _ _ hm,
      GatherDims.offCoord_eq_zero _ _ _ (fun hh => ((GatherDims.mem_sKept _ _).mp hh).2 hm)]
    simp only [Nat.zero_add, Nat.add_zero]
    unfold GatherDims.batchCoord
    rw [dif_pos hm]
    rfl
  · have hm : (1 : Fin 2) ∈ dims2.startIndexMap := List.mem_singleton.mpr rfl
    have hb : (1 : Fin 2) ∉ dims2.operandBatchingDims := show (1 : Fin 2) ∉ ([0] : List (Fin 2)) by decide
    have hc : (1 : Fin 2) ∈ dims2.collapsedSliceDims := List.mem_singleton.mpr rfl
    rw [GatherDims.batchCoord_eq_zero _ _ _ hb,
      GatherDims.offCoord_eq_zero _ _ _ (fun hh => ((GatherDims.mem_sKept _ _).mp hh).1 hc)]
    simp only [Nat.add_zero]
    unfold GatherDims.start
    rw [dif_pos hm]
    have hsi : ∀ q, dims2.siIdx (ix2 b k) q = ix3 b k 0 := by
      intro q
      funext c
      refine Fin.ext ?_
      match c with
      | ⟨0, _⟩ => rfl
      | ⟨1, _⟩ => rfl
      | ⟨2, _⟩ => exact Nat.lt_one_iff.mp (Fin.isLt _)
    rw [hsi, wrap2_apply i n h, word_toInt]
    exact Nat.min_eq_left (by have := (n b k).isLt; show (n b k).val ≤ 2047; omega)

end Rank2

/-! ## One row number per (batch, column, row) -/

section Rank3
variable {α : Type}

/-- The dimension numbers of the rank-3 read, under a short name. -/
abbrev dims3 := gather_S16x512x2048_S16x512x2048x1_S16x512x2048_n_2_01_01_2_3_111

/-- The row numbers with the negative ones counted from the end, a unit axis added. -/
def wrap3 (i : IVec S16x512x2048 32) : IVec S16x512x2048x1 32 :=
  shapeCast _ (select (cmpi .slt i (broadcastInDim S16x512x2048 ![] bcast_S_S16x512x2048 (constantI S_ 32 0#32)))
    (addi i (broadcastInDim S16x512x2048 ![] bcast_S_S16x512x2048 (constantI S_ 32 2048#32))) i)
    shapeCasts_S16x512x2048_S16x512x2048x1

/-- Whether each row number is in range. -/
def inside3 (w : IVec S16x512x2048x1 32) : IVec S16x512x2048 1 :=
  Host.reduce IntOp.andi
    (andi (cmpi .sge w (broadcastInDim S16x512x2048x1 ![] bcast_S_S16x512x2048x1 (constantI S_ 32 0#32)))
      (cmpi .sle w (broadcastInDim S16x512x2048x1 ![0, 1, 2, 3] bcast_S1x1x1x1_S16x512x2048x1_0_1_2_3
        (broadcastInDim S1x1x1x1 ![3] bcast_S1_S1x1x1x1_3 (constantI S1 32 2047#32)))))
    (constantI S_ 1 1#1) reducesTo_S16x512x2048x1_S16x512x2048_d3 h_S_

/-- The array read at the row numbers, the filler where a number is out of range. -/
def take3 (d : S16x512x2048.Idx → α) (i : IVec S16x512x2048 32) (nan : S16x512x2048.Idx → α) : S16x512x2048.Idx → α :=
  select (inside3 (wrap3 i))
    (Host.gather dims3 d (wrap3 i)) nan

variable (i : IVec S16x512x2048 32) (n : Fin 16 → Fin 2048 → Fin 2048)
  (h : ∀ b c k, i (ix3 b c k) = BitVec.ofNat 32 (n b k).val)
include h

theorem wrap3_apply (b : Fin 16) (c : Fin 512) (k : Fin 2048) (z : Fin 1) :
    wrap3 i (ix4 b c k z) = BitVec.ofNat 32 (n b k).val := by
  unfold wrap3
  rw [shapeCast_apply _ shapeCasts_S16x512x2048_S16x512x2048x1 (ix4 b c k z) (ix3 b c k)
    (by rewrite [Shape.rowMajor_val_four, Shape.rowMajor_val_three]
        have hz : z.val = 0 := by omega
        show (b.val * 512 + c.val) * 2048 + k.val = ((b.val * 512 + c.val) * 2048 + k.val) * 1 + z.val
        omega)]
  show Scalar.select (IntOp.cmpi .slt (i (ix3 b c k)) 0#32) _ (i (ix3 b c k)) = _
  rw [h, word_slt, select_zero]

theorem inside3_apply (j : S16x512x2048.Idx) : inside3 (wrap3 i) j = 1#1 := by
  unfold inside3
  refine reduce_ones _ _ _ _ (fun q => ?_) (fun _ => rfl) j
  rw [eq_ix4 q]
  show IntOp.andi (IntOp.cmpi .sge (wrap3 i (ix4 (q 0) (q 1) (q 2) (q 3))) 0#32)
    (IntOp.cmpi .sle (wrap3 i (ix4 (q 0) (q 1) (q 2) (q 3))) 2047#32) = 1#1
  rw [wrap3_apply i n h (q 0) (q 1) (q 2) (q 3), word_inside]

/-- Where every row number is in range, reading at the row numbers reads the named elements. -/
theorem take3_apply (d nan : S16x512x2048.Idx → α) (b : Fin 16) (c : Fin 512) (k : Fin 2048) :
    take3 d i nan (ix3 b c k) = d (ix3 b c (n b k)) := by
  unfold take3
  rw [select_apply, inside3_apply i n h, select_one]
  unfold Host.gather
  congr 1
  funext a
  refine Fin.ext ?_
  show dims3.start (ix3 b c k) (wrap3 i) a + dims3.batchCoord (ix3 b c k) a + dims3.offCoord (ix3 b c k) a = _
  have batch : ∀ a : Fin 3, a ∈ dims3.operandBatchingDims →
      dims3.start (ix3 b c k) (wrap3 i) a + dims3.batchCoord (ix3 b c k) a + dims3.offCoord (ix3 b c k) a
        = dims3.batchCoord (ix3 b c k) a := by
    intro a ha
    rw [GatherDims.start_batching _ _ _ _ ha,
      GatherDims.offCoord_eq_zero _ _ _ (fun hh => ((GatherDims.mem_sKept _ _).mp hh).2 ha)]
    simp only [Nat.zero_add, Nat.add_zero]
  have h012 : a = 0 ∨ a = 1 ∨ a = 2 := match a with
    | ⟨0, _⟩ => Or.inl rfl
    | ⟨1, _⟩ => Or.inr (Or.inl rfl)
    | ⟨2, _⟩ => Or.inr (Or.inr rfl)
  rcases h012 with rfl | rfl | rfl
  · have hm : (0 : Fin 3) ∈ dims3.operandBatchingDims := show (0 : Fin 3) ∈ ([0, 1] : List (Fin 3)) by decide
    refine (batch 0 hm).trans ?_
    unfold GatherDims.batchCoord
    rw [dif_pos hm]
    rfl
  · have hm : (1 : Fin 3) ∈ dims3.operandBatchingDims := show (1 : Fin 3) ∈ ([0, 1] : List (Fin 3)) by decide
    refine (batch 1 hm).trans ?_
    unfold GatherDims.batchCoord
    rw [dif_pos hm]
    rfl
  · have hm : (2 : Fin 3) ∈ dims3.startIndexMap := List.mem_singleton.mpr rfl
    have hb : (2 : Fin 3) ∉ dims3.operandBatchingDims := show (2 : Fin 3) ∉ ([0, 1] : List (Fin 3)) by decide
    have hc : (2 : Fin 3) ∈ dims3.collapsedSliceDims := List.mem_singleton.mpr rfl
    rw [GatherDims.batchCoord_eq_zero _ _ _ hb,
      GatherDims.offCoord_eq_zero _ _ _ (fun hh => ((GatherDims.mem_sKept _ _).mp hh).1 hc)]
    simp only [Nat.add_zero]
    unfold GatherDims.start
    rw [dif_pos hm]
    have hsi : ∀ q, dims3.siIdx (ix3 b c k) q = ix4 b c k 0 := by
      intro q
      funext e
      refine Fin.ext ?_
      match e with
      | ⟨0, _⟩ => rfl
      | ⟨1, _⟩ => rfl
      | ⟨2, _⟩ => rfl
      | ⟨3, _⟩ => exact Nat.lt_one_iff.mp (Fin.isLt _)
    rw [hsi, wrap3_apply i n h, word_toInt]
    exact Nat.min_eq_left (by have := (n b k).isLt; show (n b k).val ≤ 2047; omega)

end Rank3

end Cert.Warp.Ref
-- ==== Proof.RefStep.lean ====
/-
  The reference's Euler step. The reference finds the row below a position by rounding the clipped position down and reads
  the increments at that row and the next. Where every position is within its own row's unit interval the rounded row is the
  row itself, so the step is the real step of `Math`.
-/
module

public import proofs.«01_k».proof.Proof.Take
public import proofs.«01_k».proof.Proof.Lit

@[expose] public section

set_option maxRecDepth 16384

noncomputable section

namespace Cert.Warp.Ref

open Cert.ReferenceIdeal Cert.ReferenceIdeal.Gen Idealize.ShloMosaic Idealize.ShloMosaic.ValueIdx

/-- A float constant at every (batch, row). -/
def fill (w : BitVec 32) : FVec Ideal S16x2048 .f32 :=
  broadcastInDim S16x2048 ![] bcast_S_S16x2048 (constant (F := Ideal) S_ .f32 w)
/-- An integer constant at every (batch, row). -/
def fillI (w : BitVec 32) : IVec S16x2048 32 := broadcastInDim S16x2048 ![] bcast_S_S16x2048 (constantI S_ 32 w)

/-- The positions held inside `[0, 2047]`. -/
def clip (f : FVec Ideal S16x2048 .f32) : FVec Ideal S16x2048 .f32 :=
  minimumf (fill 0x44FFE000#32) (maximumf (fill 0x00000000#32) f)
/-- The row at or below a clipped position, at most 2046. -/
def low (f : FVec Ideal S16x2048 .f32) : IVec S16x2048 32 :=
  minsi (fillI 2046#32) (maxsi (fillI 0#32) (fptosi 32 (Host.floor (clip f))))
/-- How far the clipped position is above that row. -/
def above (f : FVec Ideal S16x2048 .f32) : FVec Ideal S16x2048 .f32 := subf (clip f) (sitofp .f32 (low f))
/-- One Euler step. -/
def euler (d f : FVec Ideal S16x2048 .f32) : FVec Ideal S16x2048 .f32 :=
  addf f (addf (mulf (take2 d (low f) (fill 0x7FC00000#32)) (subf (fill 0x3F800000#32) (above f)))
    (mulf (take2 d (addi (low f) (fillI 1#32)) (fill 0x7FC00000#32)) (above f)))

theorem fill_apply (w : BitVec 32) (j : S16x2048.Idx) : fill w j = Ideal.ofBits .f32 w := rfl

/-- The clipped position of a real array. -/
theorem clip_apply (r : Grid) (b : Fin 16) (k : Fin 2048) : clip (vec r) (ix2 b k) = ((clamp (r b k) : ℝ) : EReal) := by
  unfold clip
  rw [minimumf_apply, maximumf_apply, fill_apply, fill_apply, lit_2047, lit_zero, vec_apply, coe_max, coe_min]
  rfl

theorem floor_clamp {r : Grid} (h : Near r) (b : Fin 16) (k : Fin 2048) : ⌊clamp (r b k)⌋ = (k.val : ℤ) := by
  obtain ⟨h0, h1⟩ := h b k
  rw [clamp_of_near h0 h1, Int.floor_eq_iff]
  split
  · exact ⟨by exact_mod_cast h0, by exact_mod_cast h1⟩
  · have : k.val = 2047 := by omega
    rw [this]; norm_num

/-- A word below 2048 held between 0 and 2046. -/
theorem word_low (k : Fin 2048) : IntOp.minsi 2046#32 (IntOp.maxsi 0#32 (BitVec.ofNat 32 k.val))
    = BitVec.ofNat 32 (lo k).val := by
  revert k; decide +kernel

/-- Where the positions are near their rows the row below is the row itself, at most 2046. -/
theorem low_apply {r : Grid} (h : Near r) (b : Fin 16) (k : Fin 2048) :
    low (vec r) (ix2 b k) = BitVec.ofNat 32 (lo k).val := by
  have e : fptosi 32 (Host.floor (clip (vec r))) (ix2 b k) = BitVec.ofNat 32 k.val := by
    show Ideal.fptosi 32 (Ideal.liftRound Int.floor (clip (vec r) (ix2 b k))) = _
    rw [clip_apply, Ideal.liftRound_coe, floor_clamp h]
    unfold Ideal.fptosi
    rw [Ideal.toIntClamped_coe, if_pos (by positivity), Int.floor_intCast]
    have hk := k.isLt
    rw [min_eq_right (by norm_num; omega), max_eq_right (by norm_num)]
    exact BitVec.ofInt_natCast 32 k.val
  show IntOp.minsi 2046#32 (IntOp.maxsi 0#32 (fptosi 32 (Host.floor (clip (vec r))) (ix2 b k))) = _
  rw [e, word_low]

theorem word_hi (k : Fin 2048) : IntOp.addi (BitVec.ofNat 32 (lo k).val) 1#32 = BitVec.ofNat 32 (hi k).val := by
  revert k; decide +kernel

theorem above_apply {r : Grid} (h : Near r) (b : Fin 16) (k : Fin 2048) :
    above (vec r) (ix2 b k) = ((wt r b k : ℝ) : EReal) := by
  unfold above
  rw [subf_apply, clip_apply]
  show _ - (((low (vec r) (ix2 b k)).toInt : ℝ) : EReal) = _
  rw [low_apply h, StableHlo.Predicate.toInt_ofNat_small _ (by have := (lo k).isLt; omega), ← EReal.coe_sub]
  rfl

/-- THE STEP: on real increments and near positions the reference's step is the real step. -/
theorem euler_eq {e r : Grid} (h : Near r) : euler (vec e) (vec r) = vec (rstep e r) := by
  refine eq_vec _ _ fun b k => ?_
  unfold euler
  rw [addf_apply, addf_apply, mulf_apply, mulf_apply, subf_apply, above_apply h, fill_apply, lit_one,
    take2_apply (low (vec r)) (fun _ k => lo k) (fun b k => low_apply h b k),
    take2_apply (addi (low (vec r)) (fillI 1#32)) (fun _ k => hi k)
      (fun b k => by
        show IntOp.addi (low (vec r) (ix2 b k)) 1#32 = _
        rw [low_apply h, word_hi])]
  simp only [vec_apply]
  rw [← EReal.coe_sub, ← EReal.coe_mul, ← EReal.coe_mul, ← EReal.coe_add, ← EReal.coe_add]
  rfl

end Cert.Warp.Ref
-- ==== Proof.RefWalk.lean ====
/-
  The reference's two results on real arguments: the eight Euler steps one after the other, and the cubic at the rows
  around the final positions.
-/
module

public import proofs.«01_k».proof.Proof.RefStep

@[expose] public section

set_option maxRecDepth 16384

noncomputable section

namespace Cert.Warp.Ref

open Cert.ReferenceIdeal Cert.ReferenceIdeal.Gen Cert.ReferenceIdeal.Read Idealize.ShloMosaic Idealize.ShloMosaic.ValueIdx

/-! ## The eight steps -/

/-- One column of the displacements over 32, as a (batch, row) array. -/
def column (x : FVec Ideal S16x2048x8 .f32) (o : Nat) (h : S16x2048x8.Slices ![0, 0, o] S16x2048x1) :
    FVec Ideal S16x2048 .f32 :=
  shapeCast _ (extractStridedSlice S16x2048x1 ![0, 0, o] (val_main_v1 (F := Ideal) x) h) shapeCasts_S16x2048x1_S16x2048

/-- Column `o` of real displacements is the increments of step `o`. -/
theorem column_eq (g : Fin 16 → Fin 2048 → Fin 8 → ℝ) (o : Nat) (ho : o < 8)
    (h : S16x2048x8.Slices ![0, 0, o] S16x2048x1) : column (dsVec g) o h = vec (incs g o) := by
  refine eq_vec _ _ fun b k => ?_
  unfold column
  rw [shapeCast_apply _ shapeCasts_S16x2048x1_S16x2048 (ix2 b k) (ix3 b k 0)
      (by rewrite [Shape.rowMajor_val_three, Shape.rowMajor_val_two]
          show (b.val * 2048 + k.val) * 1 + 0 = b.val * 2048 + k.val
          omega),
    extractStridedSlice_apply ![0, 0, o] _ h (ix3 b k 0) (ix3 b k ⟨o, ho⟩) (fun a => match a with
      | ⟨0, _⟩ => (Nat.zero_add _).symm
      | ⟨1, _⟩ => (Nat.zero_add _).symm
      | ⟨2, _⟩ => rfl)]
  show Ideal.div ((g b k ⟨o, ho⟩ : ℝ) : EReal) (Ideal.ofBits .f32 0x42000000#32) = _
  rw [lit_32, Ideal.div_coe (by norm_num), ← EReal.coe_mul]
  have e : (⟨o, ho⟩ : Fin 8) = Fin.ofNat 8 o := Fin.ext (Nat.mod_eq_of_lt ho).symm
  rw [e]
  unfold incs
  congr 1
  ring

/-- The starting positions are the row numbers. -/
theorem start_eq : val_main_v5 (F := Ideal) = vec start := by
  refine eq_vec _ _ fun b k => ?_
  unfold val_main_v5
  rw [broadcastInDim_apply ![1] bcast_S2048_S16x2048_1 _ (ix2 b k) (ix1 k) (fun a => match a with
      | ⟨0, _⟩ => (if_neg (by decide : ¬(2048 = 1))).symm)]
  show (((BitVec.ofNat 32 k.val).toInt : ℝ) : EReal) = ((k.val : ℝ) : EReal)
  rw [StableHlo.Predicate.toInt_ofNat_small _ (by omega)]
  norm_cast

variable (x : FVec Ideal S16x2048x8 .f32)

theorem step_0 : val_main_v21 (F := Ideal) x
    = euler (column x 0 slices_S16x2048x8_S16x2048x1_0_0_0) (val_main_v5 (F := Ideal)) := rfl
theorem step_1 : val_main_v39 (F := Ideal) x
    = euler (column x 1 slices_S16x2048x8_S16x2048x1_0_0_1) (val_main_v21 (F := Ideal) x) := rfl
theorem step_2 : val_main_v57 (F := Ideal) x
    = euler (column x 2 slices_S16x2048x8_S16x2048x1_0_0_2) (val_main_v39 (F := Ideal) x) := rfl
theorem step_3 : val_main_v75 (F := Ideal) x
    = euler (column x 3 slices_S16x2048x8_S16x2048x1_0_0_3) (val_main_v57 (F := Ideal) x) := rfl
theorem step_4 : val_main_v93 (F := Ideal) x
    = euler (column x 4 slices_S16x2048x8_S16x2048x1_0_0_4) (val_main_v75 (F := Ideal) x) := rfl
theorem step_5 : val_main_v111 (F := Ideal) x
    = euler (column x 5 slices_S16x2048x8_S16x2048x1_0_0_5) (val_main_v93 (F := Ideal) x) := rfl
theorem step_6 : val_main_v129 (F := Ideal) x
    = euler (column x 6 slices_S16x2048x8_S16x2048x1_0_0_6) (val_main_v111 (F := Ideal) x) := rfl
theorem step_7 : val_main_v147 (F := Ideal) x
    = euler (column x 7 slices_S16x2048x8_S16x2048x1_0_0_7) (val_main_v129 (F := Ideal) x) := rfl

section Real
variable (g : Fin 16 → Fin 2048 → Fin 8 → ℝ) (hg : ∀ b k n, 0 ≤ g b k n ∧ g b k n < 4)
include hg

/-- Displacements in `[0, 4)` give increments in `[0, 1/8)`. -/
theorem incs_bound (n : Nat) (b : Fin 16) (k : Fin 2048) : 0 ≤ incs g n b k ∧ incs g n b k < 1 / 8 := by
  obtain ⟨h0, h1⟩ := hg b k (Fin.ofNat 8 n)
  unfold incs
  constructor <;> linarith

/-- One more step of the walk. -/
theorem next (n : Nat) (hn : n < 8) (h : S16x2048x8.Slices ![0, 0, n] S16x2048x1) (f : FVec Ideal S16x2048 .f32)
    (hf : f = vec (walk (incs g) n)) : euler (column (dsVec g) n h) f = vec (walk (incs g) (n + 1)) := by
  rw [hf, column_eq g n hn, euler_eq (walk_near (incs_bound g hg) n (by omega)).1]
  rfl

/-- THE SECOND RESULT: the positions after eight steps. -/
theorem positions_eq : val_main_v147 (F := Ideal) (dsVec g) = vec (walk (incs g) 8) := by
  rw [step_7]; refine next g hg 7 (by omega) _ _ ?_
  rw [step_6]; refine next g hg 6 (by omega) _ _ ?_
  rw [step_5]; refine next g hg 5 (by omega) _ _ ?_
  rw [step_4]; refine next g hg 4 (by omega) _ _ ?_
  rw [step_3]; refine next g hg 3 (by omega) _ _ ?_
  rw [step_2]; refine next g hg 2 (by omega) _ _ ?_
  rw [step_1]; refine next g hg 1 (by omega) _ _ ?_
  rw [step_0]; exact next g hg 0 (by omega) _ _ start_eq

end Real

/-! ## The cubic -/

/-- A float constant at every (batch, column, row). -/
def fill3 (w : BitVec 32) : FVec Ideal S16x512x2048 .f32 :=
  broadcastInDim S16x512x2048 ![] bcast_S_S16x512x2048 (constant (F := Ideal) S_ .f32 w)
theorem fill3_apply (w : BitVec 32) (j : S16x512x2048.Idx) : fill3 w j = Ideal.ofBits .f32 w := rfl

/-- A (batch, row) array with a unit column axis. -/
def thin {α : Type} (i : S16x2048.Idx → α) : S16x1x2048.Idx → α :=
  broadcastInDim S16x1x2048 ![0, 2] bcast_S16x2048_S16x1x2048_0_2 i
/-- An array with a unit column axis repeated along 512 columns. -/
def spread {α : Type} (i : S16x1x2048.Idx → α) : S16x512x2048.Idx → α :=
  broadcastInDim S16x512x2048 ![0, 1, 2] bcast_S16x1x2048_S16x512x2048_0_1_2 i

theorem thin_apply {α : Type} (i : S16x2048.Idx → α) (b : Fin 16) (z : Fin 1) (k : Fin 2048) :
    thin i (ix3 b z k) = i (ix2 b k) := by
  unfold thin
  exact broadcastInDim_apply ![0, 2] bcast_S16x2048_S16x1x2048_0_2 i (ix3 b z k) (ix2 b k) (fun a => match a with
    | ⟨0, _⟩ => (if_neg (by decide : ¬(16 = 1))).symm
    | ⟨1, _⟩ => (if_neg (by decide : ¬(2048 = 1))).symm)
theorem spread_apply {α : Type} (i : S16x1x2048.Idx → α) (b : Fin 16) (c : Fin 512) (k : Fin 2048) :
    spread i (ix3 b c k) = i (ix3 b 0 k) := by
  unfold spread
  exact broadcastInDim_apply ![0, 1, 2] bcast_S16x1x2048_S16x512x2048_0_1_2 i (ix3 b c k) (ix3 b 0 k)
    (fun a => match a with
      | ⟨0, _⟩ => (if_neg (by decide : ¬(16 = 1))).symm
      | ⟨1, _⟩ => (if_pos (rfl : 1 = 1)).symm
      | ⟨2, _⟩ => (if_neg (by decide : ¬(2048 = 1))).symm)

/-- Row numbers held between 0 and 2047. -/
def held (i : IVec S16x2048 32) : IVec S16x2048 32 := minsi (fillI 2047#32) (maxsi (fillI 0#32) i)

/-- The samples with rows last, read at row numbers. -/
def sample (x : FVec Ideal S16x2048x512 .f32) (i : IVec S16x2048 32) : FVec Ideal S16x512x2048 .f32 :=
  take3 (transpose S16x512x2048 [0, 2, 1] x transposes_S16x2048x512_S16x512x2048_0_2_1) (spread (thin i))
    (fill3 0x7FC00000#32)

/-- The polynomial as the reference spells it. -/
def poly (p0 p1 p2 p3 : FVec Ideal S16x512x2048 .f32) (t : FVec Ideal S16x1x2048 .f32) : FVec Ideal S16x512x2048 .f32 :=
  mulf (fill3 0x3F000000#32)
    (addf (addf (addf (mulf (fill3 0x40000000#32) p1) (mulf (addf (Host.negf p0) p2) (spread t)))
      (mulf (subf (addf (subf (mulf (fill3 0x40000000#32) p0) (mulf (fill3 0x40A00000#32) p1))
        (mulf (fill3 0x40800000#32) p2)) p3) (spread (mulf t t))))
      (mulf (addf (subf (addf (Host.negf p0) (mulf (fill3 0x40400000#32) p1)) (mulf (fill3 0x40400000#32) p2)) p3)
        (spread (mulf (mulf t t) t))))

/-- The cubic interpolation of `x` at positions `f`. -/
def curve (x : FVec Ideal S16x2048x512 .f32) (f : FVec Ideal S16x2048 .f32) : FVec Ideal S16x2048x512 .f32 :=
  transpose S16x2048x512 [0, 2, 1]
    (poly (sample x (held (subi (low f) (fillI 1#32)))) (sample x (low f)) (sample x (addi (low f) (fillI 1#32)))
      (sample x (held (addi (low f) (fillI 2#32)))) (thin (above f)))
    transposes_S16x512x2048_S16x2048x512_0_2_1

/-- The reference's first result is the cubic at its second. -/
theorem curve_rfl (y : FVec Ideal S16x2048x512 .f32) :
    val_main_v210 (F := Ideal) y x = curve y (val_main_v147 (F := Ideal) x) := rfl

theorem word_before (k : Fin 2048) :
    IntOp.minsi 2047#32 (IntOp.maxsi 0#32 (IntOp.subi (BitVec.ofNat 32 (lo k).val) 1#32))
      = BitVec.ofNat 32 (before k).val := by
  revert k; decide +kernel
theorem word_beyond (k : Fin 2048) :
    IntOp.minsi 2047#32 (IntOp.maxsi 0#32 (IntOp.addi (BitVec.ofNat 32 (lo k).val) 2#32))
      = BitVec.ofNat 32 (beyond k).val := by
  revert k; decide +kernel

/-- A sample at row numbers in range. -/
theorem sample_apply (X : Fin 16 → Fin 2048 → Fin 512 → ℝ) (i : IVec S16x2048 32) (n : Fin 2048 → Fin 2048)
    (h : ∀ b k, i (ix2 b k) = BitVec.ofNat 32 (n k).val) (b : Fin 16) (c : Fin 512) (k : Fin 2048) :
    sample (xsVec X) i (ix3 b c k) = ((X b (n k) c : ℝ) : EReal) := by
  unfold sample
  rw [take3_apply (spread (thin i)) (fun _ k => n k) (fun b c k => by rw [spread_apply, thin_apply, h])]
  rw [transpose_apply [0, 2, 1] (xsVec X) transposes_S16x2048x512_S16x512x2048_0_2_1 (ix3 b c (n k)) (ix3 b (n k) c)
    (fun a => match a with
      | ⟨0, _⟩ => rfl
      | ⟨1, _⟩ => rfl
      | ⟨2, _⟩ => rfl)]
  rfl

/-- The polynomial at an index, on reals. -/
theorem poly_apply (p0 p1 p2 p3 : FVec Ideal S16x512x2048 .f32) (t : FVec Ideal S16x1x2048 .f32)
    (b : Fin 16) (c : Fin 512) (k : Fin 2048) (q0 q1 q2 q3 u : ℝ)
    (h0 : p0 (ix3 b c k) = (q0 : EReal)) (h1 : p1 (ix3 b c k) = (q1 : EReal)) (h2 : p2 (ix3 b c k) = (q2 : EReal))
    (h3 : p3 (ix3 b c k) = (q3 : EReal)) (ht : t (ix3 b 0 k) = (u : EReal)) :
    poly p0 p1 p2 p3 t (ix3 b c k) = ((cubic q0 q1 q2 q3 u : ℝ) : EReal) := by
  have hn : (Host.negf p0) (ix3 b c k) = ((-q0 : ℝ) : EReal) := by
    show -(p0 (ix3 b c k)) = _
    rw [h0]; exact (EReal.coe_neg q0).symm
  unfold poly
  simp only [mulf_apply, addf_apply, subf_apply, spread_apply, fill3_apply, hn, h0, h1, h2, h3, ht,
    lit_half, lit_two, lit_three, lit_four, lit_five, ← EReal.coe_mul, ← EReal.coe_add, ← EReal.coe_sub]
  rfl

/-- The cubic interpolation of real samples at near positions. -/
theorem curve_eq (X : Fin 16 → Fin 2048 → Fin 512 → ℝ) {r : Grid} (h : Near r) (b : Fin 16) (k : Fin 2048) (c : Fin 512) :
    curve (xsVec X) (vec r) (ix3 b k c) = ((warped X r b k c : ℝ) : EReal) := by
  unfold curve
  rw [transpose_apply [0, 2, 1] _ transposes_S16x512x2048_S16x2048x512_0_2_1 (ix3 b k c) (ix3 b c k)
    (fun a => match a with
      | ⟨0, _⟩ => rfl
      | ⟨1, _⟩ => rfl
      | ⟨2, _⟩ => rfl)]
  refine poly_apply _ _ _ _ _ b c k _ _ _ _ _ (sample_apply X _ before (fun b k => ?_) b c k)
    (sample_apply X _ lo (fun b k => low_apply h b k) b c k) (sample_apply X _ hi (fun b k => ?_) b c k)
    (sample_apply X _ beyond (fun b k => ?_) b c k) ((thin_apply _ b 0 k).trans (above_apply h b k))
  · show IntOp.minsi 2047#32 (IntOp.maxsi 0#32 (IntOp.subi (low (vec r) (ix2 b k)) 1#32)) = _
    rw [low_apply h, word_before]
  · show IntOp.addi (low (vec r) (ix2 b k)) 1#32 = _
    rw [low_apply h, word_hi]
  · show IntOp.minsi 2047#32 (IntOp.maxsi 0#32 (IntOp.addi (low (vec r) (ix2 b k)) 2#32)) = _
    rw [low_apply h, word_beyond]

/-- THE FIRST RESULT, index by index: the warped array. -/
theorem warped_eq (X : Fin 16 → Fin 2048 → Fin 512 → ℝ) (g : Fin 16 → Fin 2048 → Fin 8 → ℝ)
    (hg : ∀ b k n, 0 ≤ g b k n ∧ g b k n < 4) (b : Fin 16) (k : Fin 2048) (c : Fin 512) :
    val_main_v210 (F := Ideal) (xsVec X) (dsVec g) (ix3 b k c)
      = ((warped X (walk (incs g) 8) b k c : ℝ) : EReal) := by
  rw [curve_rfl, positions_eq g hg]
  exact curve_eq X (walk_near (incs_bound g hg) 8 (le_refl _)).1 b k c

end Cert.Warp.Ref
-- ==== Proof.KRun.lean ====
/-
  The launch: the displacements are transposed, the first kernel runs, its four weight arrays are stacked as columns, and the
  second kernel runs. The buffers at each boundary are read back to the arguments, and the run is stated with both results.
-/
module

public import proofs.«01_k».proof.Proof.Arrays
public import proofs.«01_k».proof.Proof.RefWalk
public import Idealize.ShloMosaic.Lib.StableHlo.Run

@[expose] public section

set_option maxRecDepth 16384

noncomputable section

namespace Cert.Warp.Ker

open Cert.KernelIdeal Cert.KernelIdeal.Gen Idealize.ShloMosaic Idealize.ShloMosaic.ValueIdx Idealize.ShloMosaic.TcCoe
open Idealize.SL Idealize.SL.Sem
open Idealize.ShloMosaic.Pipeline (Dat)

/-- Four arrays of weights as the columns of one. -/
def stack (u : Fin 4 → FVec Ideal S16x2048 .f32) : FVec Ideal S16x2048x4 .f32 :=
  concatenate S16x2048x4 2
    [⟨S16x2048x1, broadcastInDim S16x2048x1 ![0, 1] bcast_S16x2048_S16x2048x1_0_1 (u 0)⟩,
     ⟨S16x2048x1, broadcastInDim S16x2048x1 ![0, 1] bcast_S16x2048_S16x2048x1_0_1 (u 1)⟩,
     ⟨S16x2048x1, broadcastInDim S16x2048x1 ![0, 1] bcast_S16x2048_S16x2048x1_0_1 (u 2)⟩,
     ⟨S16x2048x1, broadcastInDim S16x2048x1 ![0, 1] bcast_S16x2048_S16x2048x1_0_1 (u 3)⟩]
    concatenates_S16x2048x1_S16x2048x1_S16x2048x1_S16x2048x1_S16x2048x4_d2

/-- An array of weights as a column, read at its row. -/
theorem column_apply (x : FVec Ideal S16x2048 .f32) (b : Fin 16) (k : Fin 2048) (i : S16x2048x1.Idx)
    (h0 : (i 0).val = b.val) (h1 : (i 1).val = k.val) :
    broadcastInDim S16x2048x1 ![0, 1] bcast_S16x2048_S16x2048x1_0_1 x i = x (ix2 b k) :=
  broadcastInDim_apply ![0, 1] bcast_S16x2048_S16x2048x1_0_1 x i (ix2 b k) (fun a => match a with
    | ⟨0, _⟩ => h0.symm.trans (if_neg (by decide : ¬(16 = 1))).symm
    | ⟨1, _⟩ => h1.symm.trans (if_neg (by decide : ¬(2048 = 1))).symm)

theorem stack_apply (u : Fin 4 → FVec Ideal S16x2048 .f32) (b : Fin 16) (k : Fin 2048) (e : Fin 4) :
    stack u (ix3 b k e) = u e (ix2 b k) := by
  unfold stack
  concat_tiles i h
  all_goals
    rw [column_apply _ b k i h0 h1]
    exact congrArg (fun f => u f (ix2 b k)) (Fin.ext h.symm)

theorem entry_eq (W : Valuation τ sig (Elt Ideal)) : StableHlo.after hostOps0 W (Proc.devRef .tc main_v0)
    = transpose S8x16x2048 [2, 0, 1] (W (Proc.devRef .tc main_arg1)) transposes_S16x2048x8_S8x16x2048_2_0_1 := by
  after_results

theorem columns_eq (W : Valuation τ sig (Elt Ideal)) : StableHlo.after hostOps1 W (Proc.devRef .tc main_v6)
    = stack ![W (Proc.devRef .tc main_v1_1), W (Proc.devRef .tc main_v1_2), W (Proc.devRef .tc main_v1_3),
        W (Proc.devRef .tc main_v1_4)] := by
  after_results
  rfl

variable (m : (ℓ : Loc nD τ sig) → Buf (Elt Ideal) ℓ) (ρ : Dev nD → PrngReg) (c : Dev nD)

variable (X : Fin 16 → Fin 2048 → Fin 512 → ℝ) (g : Fin 16 → Fin 2048 → Fin 8 → ℝ)

/-- The first kernel's input is the displacements, step first. -/
theorem entry (hd : m ((c : Thread nD τ).loc main_arg1) = dsVec g) : V1 m ρ c main_v0 = dsFirst g := by
  refine (entry_eq (W0 m ρ c)).trans ?_
  rw [show W0 m ρ c (Proc.devRef .tc main_arg1) = dsVec g from hd]
  funext j
  exact transpose_apply [2, 0, 1] (dsVec g) transposes_S16x2048x8_S8x16x2048_2_0_1 j (ix3 (j 1) (j 2) (j 0)) (fun a => match a with
    | ⟨0, _⟩ => rfl
    | ⟨1, _⟩ => rfl
    | ⟨2, _⟩ => rfl)

/-- What the first kernel leaves, read through its launch. -/
theorem positions_out (hd : m ((c : Thread nD τ).loc main_arg1) = dsVec g) :
    W4 m ρ c (Proc.devRef .tc main_v1_0) = vec (walk (incs g) 8) := by
  rw [W4_of m ρ c main_v1_0 (by decide +kernel), W3_of m ρ c main_v1_0 (by decide +kernel)]
  refine (W2_arr m ρ c 1).trans ?_
  rw [final0_1, entry m ρ c g hd, block1_eq]

/-- The second kernel's coefficients: the first kernel's four weight arrays as columns. -/
theorem coefs_in (hd : m ((c : Thread nD τ).loc main_arg1) = dsVec g) : V3 m ρ c main_v6
    = stack ![out0_2 (F := Ideal) (dsFirst g), out0_3 (F := Ideal) (dsFirst g),
        out0_4 (F := Ideal) (dsFirst g), out0_5 (F := Ideal) (dsFirst g)] := by
  have e2 : W2 m ρ c (Proc.devRef .tc main_v1_1) = out0_2 (F := Ideal) (dsFirst g) := by
    refine (W2_arr m ρ c 2).trans ?_
    rw [final0_2, entry m ρ c g hd]
  have e3 : W2 m ρ c (Proc.devRef .tc main_v1_2) = out0_3 (F := Ideal) (dsFirst g) := by
    refine (W2_arr m ρ c 3).trans ?_
    rw [final0_3, entry m ρ c g hd]
  have e4 : W2 m ρ c (Proc.devRef .tc main_v1_3) = out0_4 (F := Ideal) (dsFirst g) := by
    refine (W2_arr m ρ c 4).trans ?_
    rw [final0_4, entry m ρ c g hd]
  have e5 : W2 m ρ c (Proc.devRef .tc main_v1_4) = out0_5 (F := Ideal) (dsFirst g) := by
    refine (W2_arr m ρ c 5).trans ?_
    rw [final0_5, entry m ρ c g hd]
  refine (columns_eq (W2 m ρ c)).trans ?_
  rw [e2, e3, e4, e5]

/-- The stack of four named arrays at a row, column by column. -/
theorem stack_columns (u₀ u₁ u₂ u₃ : FVec Ideal S16x2048 .f32) (b : Fin 16) (k : Fin 2048) :
    stack ![u₀, u₁, u₂, u₃] (ix3 b k 0) = u₀ (ix2 b k) ∧ stack ![u₀, u₁, u₂, u₃] (ix3 b k 1) = u₁ (ix2 b k)
    ∧ stack ![u₀, u₁, u₂, u₃] (ix3 b k 2) = u₂ (ix2 b k) ∧ stack ![u₀, u₁, u₂, u₃] (ix3 b k 3) = u₃ (ix2 b k) :=
  ⟨stack_apply _ b k 0, stack_apply _ b k 1, stack_apply _ b k 2, stack_apply _ b k 3⟩

/-- What the second kernel leaves, on real arguments whose displacements are in `[0, 4)`. -/
theorem warped_out (hx : m ((c : Thread nD τ).loc main_arg0) = xsVec X) (hd : m ((c : Thread nD τ).loc main_arg1) = dsVec g)
    (hg : ∀ b k n, 0 ≤ g b k n ∧ g b k n < 4) :
    W4 m ρ c (Proc.devRef .tc main_v7) = xsVec (warped X (walk (incs g) 8)) := by
  refine (W4_arr m ρ c 2).trans ?_
  have hlast := wt_last (walk_near (fun n b k => Ref.incs_bound g hg n b k) 8 (le_refl _)).1
  have hx3 : V3 m ρ c main_arg0 = xsVec X := by
    show W3 m ρ c (Proc.devRef .tc main_arg0) = _
    rw [W3_args m ρ c main_arg0 (by decide)]
    exact hx
  exact final1 (V3 m ρ) c X (walk (incs g) 8) hlast _ hx3 (coefs_in m ρ c g hd)
    (fun b k => (stack_columns _ _ _ _ b k).1.trans (block2_apply g b k))
    (fun b k hk => (stack_columns _ _ _ _ b k).2.1.trans (block3_apply g b k hk))
    (fun b k hk => (stack_columns _ _ _ _ b k).2.2.1.trans (block4_apply g b k hk))
    (fun b k => (stack_columns _ _ _ _ b k).2.2.2.trans (block5_apply g b k))

end Cert.Warp.Ker
-- ==== Proof.KLaunch.lean ====
/-
  The run of the launch at the ideal floats: the same set-up as the frame's, read at the two results as well as at the arguments.
-/
module

public import proofs.«01_k».proof.Proof.KRun

@[expose] public section

set_option maxRecDepth 16384

noncomputable section

namespace Cert.Warp.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: every weakly fair run ends with the two results at the last boundary's contents and the arguments as launched. -/
theorem run : θ_run defs (onTc (τ := τ) (main (F := Ideal))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v1_0) = W4 m ρ c (Proc.devRef .tc main_v1_0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v7 (by decide)), h c _ (mem_uc main_v1_0 (by decide)),
       (h c _ (mem_uc main_arg0 (by decide))).trans (W4_main_arg0 m ρ c),
       (h c _ (mem_uc main_arg1 (by decide))).trans (W4_main_arg1 m ρ c)⟩)

end Cert.Warp.Ker
-- ==== Proof.Tame.lean ====
/-
  The precondition read at the ideal floats: an input it holds of is a pair of real arrays, the displacements in `[0, 4)`.
-/
module

public import proofs.«01_k».proof.Pre_tame
public import proofs.«01_k».proof.Proof.Lit
public import Idealize.ShloMosaic.Lib.StableHlo.Predicate

@[expose] public section

noncomputable section

namespace Cert.Warp.Tame

open Idealize.ShloMosaic Idealize.ShloMosaic.ValueIdx Cert.Pre_tame

/-- The shape relations the precondition states. -/
theorem facts : Cert.Pre_tame.Facts := ⟨by decide, by decide⟩

theorem both_one : ∀ a b : BitVec 1, a &&& b = 1#1 → a = 1#1 ∧ b = 1#1 := by decide

variable [Cert.Pre_tame.Facts] (x : FVec Ideal S16x2048x512 .f32) (d : FVec Ideal S16x2048x8 .f32)

/-- A displacement is at least 0 and below 4. -/
theorem displaced (h : (fn (F := Ideal) x d).1 = fun _ => 1#1) (j : S16x2048x8.Idx) :
    ((0 : ℝ) : EReal) ≤ d j ∧ d j < ((4 : ℝ) : EReal) := by
  have e : BitVec.ofBool (decide (Ideal.ofBits .f32 0x00000000#32 ≤ d j))
      &&& BitVec.ofBool (decide (d j < Ideal.ofBits .f32 0x40800000#32)) = 1#1 := congrFun h j
  rw [lit_zero, lit_four] at e
  obtain ⟨e1, e2⟩ := both_one _ _ e
  exact ⟨of_decide_eq_true ((StableHlo.Predicate.ofBool_eq_one_iff _).mp e1),
    of_decide_eq_true ((StableHlo.Predicate.ofBool_eq_one_iff _).mp e2)⟩

/-- A sample is neither infinity. -/
theorem sampled (h : (fn (F := Ideal) x d).2 = fun _ => 1#1) (j : S16x2048x512.Idx) : ⊥ < x j ∧ x j < ⊤ := by
  have e : BitVec.ofBool (decide (Ideal.ofBits .f32 0xFF800000#32 < x j))
      &&& BitVec.ofBool (decide (x j < Ideal.ofBits .f32 0x7F800000#32)) = 1#1 := congrFun h j
  rw [lit_bot, lit_top] at e
  obtain ⟨e1, e2⟩ := both_one _ _ e
  exact ⟨of_decide_eq_true ((StableHlo.Predicate.ofBool_eq_one_iff _).mp e1),
    of_decide_eq_true ((StableHlo.Predicate.ofBool_eq_one_iff _).mp e2)⟩

/-- THE PRECONDITION: real arrays, the displacements in `[0, 4)`. -/
theorem reals (h : (fn (F := Ideal) x d).1 = (fun _ => 1#1) ∧ (fn (F := Ideal) x d).2 = fun _ => 1#1) :
    ∃ (X : Fin 16 → Fin 2048 → Fin 512 → ℝ) (g : Fin 16 → Fin 2048 → Fin 8 → ℝ),
      x = xsVec X ∧ d = dsVec g ∧ ∀ b k n, 0 ≤ g b k n ∧ g b k n < 4 := by
  have hx : ∀ j, ((EReal.toReal (x j) : ℝ) : EReal) = x j := fun j =>
    EReal.coe_toReal (sampled x d h.2 j).2.ne (sampled x d h.2 j).1.ne'
  have hd : ∀ j, ((EReal.toReal (d j) : ℝ) : EReal) = d j := fun j =>
    EReal.coe_toReal ((displaced x d h.1 j).2.trans (EReal.coe_lt_top 4)).ne
      ((EReal.bot_lt_coe 0).trans_le (displaced x d h.1 j).1).ne'
  refine ⟨fun b k c => EReal.toReal (x (ix3 b k c)), fun b k n => EReal.toReal (d (ix3 b k n)), ?_, ?_, fun b k n => ?_⟩
  · exact funext fun j => (congrArg x (eq_ix3 j)).trans (hx _).symm
  · exact funext fun j => (congrArg d (eq_ix3 j)).trans (hd _).symm
  · have q := displaced x d h.1 (ix3 b k n)
    rw [← hd] at q
    exact ⟨EReal.coe_le_coe_iff.mp q.1, EReal.coe_lt_coe_iff.mp q.2⟩

end Cert.Warp.Tame
-- ==== Proof.lean ====
/-
  The proof of `Cert.Claim`: the frames, the idealization, and the equality of both results at the ideal floats.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KLaunch
public import proofs.«01_k».proof.Proof.RefWalk
public import proofs.«01_k».proof.Proof.Tame
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.ShloMosaic.StableHlo Idealize.SL.Sem Cert.Warp

attribute [local instance] Cert.Warp.Tame.facts

/-- The reference runs, keeps its arguments, and ends with every semaphore at zero. -/
theorem reference_frame : Cert.quiescent_ReferenceIdeal := fun m ρ _ =>
  (θ_run (Cert.ReferenceIdeal.defs (F := Ideal)) _ _).mono
    (fun r h => ⟨fun c => ⟨(h c).2.2.1, (h c).2.2.2⟩, Idealize.ShloMosaic.sem_eq_zero_of_no_sems (by decide) r.2⟩)
    (Cert.ReferenceIdeal.Value.run (F := Ideal) m ρ)

/-- The reference's first result, of real arguments: the warped array. -/
theorem reference_warped (X : Fin 16 → Fin 2048 → Fin 512 → ℝ) (g : Fin 16 → Fin 2048 → Fin 8 → ℝ)
    (hg : ∀ b k n, 0 ≤ g b k n ∧ g b k n < 4) :
    Cert.ReferenceIdeal.Read.val_main_v210 (F := Ideal) (xsVec X) (dsVec g) = xsVec (warped X (walk (incs g) 8)) :=
  funext fun j => (congrArg _ (eq_ix3 j)).trans (Ref.warped_eq X g hg (j 0) (j 1) (j 2))

/-- THE VALUE: on real samples and displacements in `[0, 4)`, kernel and reference end with the same warped array and the
    same positions. -/
theorem value : Cert.algebraic_KernelIdeal_ReferenceIdeal_pre_tame := by
  intro m ρ m' ρ' hpre hagree
  choose X g hX hG hg using fun c => Cert.Warp.Tame.reals _ _ (hpre c)
  refine ⟨fun c => xsVec (warped (X c) (walk (incs (g c)) 8)), fun c => vec (walk (incs (g c)) 8), ?_, ?_⟩
  · exact (θ_run (Cert.KernelIdeal.defs (F := Ideal)) _ _).mono
      (fun r h c => ⟨(h c).1.trans (Ker.warped_out m ρ c (X c) (g c) (hX c) (hG c) (hg c)),
        (h c).2.1.trans (Ker.positions_out m ρ c (g c) (hG c)), (h c).2.2.1, (h c).2.2.2⟩)
      (Ker.run m ρ)
  · refine (θ_run (Cert.ReferenceIdeal.defs (F := Ideal)) _ _).mono (fun r h c => ⟨?_, ?_, (h c).2.2.1, (h c).2.2.2⟩)
      (Cert.ReferenceIdeal.Value.run (F := Ideal) m' ρ')
    · refine (h c).1.trans ((Cert.ReferenceIdeal.Read.val_main_v210_eq (launchContents m' c)).trans ?_)
      rw [launchContents_devRef, launchContents_devRef, (hagree c).1, (hagree c).2, hX c, hG c]
      exact reference_warped (X c) (g c) (hg c)
    · refine (h c).2.1.trans ((Cert.ReferenceIdeal.Read.val_main_v147_eq (launchContents m' c)).trans ?_)
      rw [launchContents_devRef, (hagree c).2, hG c]
      exact Ref.positions_eq (g c) (hg c)

/-- Everything claimed: the three frames (two of them also under the precondition), the idealization, the value. -/
theorem claim : Cert.Claim :=
  ⟨Cert.Kernel.Gen.facts, Cert.KernelIdeal.Gen.facts, Cert.ReferenceIdeal.Gen.facts, Cert.Warp.Tame.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, value⟩

end Cert.Proof

end
